-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x100000 : Shape := ⟨2, ![1024, 100000]⟩
abbrev S_ : Shape := ⟨0, ![]⟩
abbrev S1024 : Shape := ⟨1, ![1024]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S4 : Shape := ⟨1, ![4]⟩
abbrev S8x128 : Shape := ⟨2, ![8, 128]⟩
abbrev S1024x2 : Shape := ⟨2, ![1024, 2]⟩
abbrev S8x100000 : Shape := ⟨2, ![8, 100000]⟩
abbrev S8x2 : Shape := ⟨2, ![8, 2]⟩
abbrev S8x1 : Shape := ⟨2, ![8, 1]⟩
abbrev S8x1024 : Shape := ⟨2, ![8, 1024]⟩
abbrev S8x672 : Shape := ⟨2, ![8, 672]⟩
abbrev S8 : Shape := ⟨1, ![8]⟩

abbrev nBuf : Space → Nat
  | .hbm => 264
  | .vmem => 6
  | .smem => 2
  | _ => 0

abbrev hbmTy0_0 (i : Nat) : BufTy := match i % 128 with
  | 0 => ⟨S1024x100000, .f32⟩
  | 1 => ⟨S_, .f32⟩
  | 2 => ⟨S1024, .f32⟩
  | 3 => ⟨S_, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S1, .i32⟩
  | 15 => ⟨S_, .i32⟩
  | 16 => ⟨S1, .i32⟩
  | 17 => ⟨S_, .i32⟩
  | 18 => ⟨S2, .i64⟩
  | 19 => ⟨S_, .i64⟩
  | 20 => ⟨S2, .i64⟩
  | 21 => ⟨S2, .i64⟩
  | 22 => ⟨S_, .i64⟩
  | 23 => ⟨S2, .i64⟩
  | 24 => ⟨S2, .i64⟩
  | 25 => ⟨S2, .i32⟩
  | 26 => ⟨S2, .i32⟩
  | 27 => ⟨S_, .i32⟩
  | 28 => ⟨S_, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S1024x100000, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2x1, .i32⟩
  | 122 => ⟨S2x1, .i32⟩
  | 123 => ⟨S2x2, .i32⟩
  | 124 => ⟨S1x2, .i32⟩
  | 125 => ⟨S2, .i32⟩
  | 126 => ⟨S1x2, .i32⟩
  | 127 => ⟨S2, .i32⟩
  | _ => ⟨S1024x100000, .f32⟩

abbrev hbmTy0_2 (i : Nat) : BufTy := match i % 128 with
  | 0 => ⟨S4, .i32⟩
  | 1 => ⟨S1, .f32⟩
  | 2 => ⟨S1, .f32⟩
  | 3 => ⟨S2, .f32⟩
  | 4 => ⟨S8x128, .f32⟩
  | 5 => ⟨S1024x2, .i32⟩
  | 6 => ⟨S8x128, .f32⟩
  | 7 => ⟨S1024, .f32⟩
  | _ => ⟨S1024x100000, .f32⟩

abbrev hbmTy (i : Nat) : BufTy := match i / 128 with
  | 0 => hbmTy0_0 i
  | 1 => hbmTy0_1 i
  | 2 => hbmTy0_2 i
  | _ => ⟨S1024x100000, .f32⟩

abbrev bufTy : (tb : Table) → Fin (tcTables nBuf tb) → BufTy
  | .hbm, ⟨i, _⟩ => hbmTy i
  | .local _ .vmem, ⟨0, _⟩ => ⟨S8x100000, .f32⟩
  | .local _ .vmem, ⟨1, _⟩ => ⟨S8x100000, .f32⟩
  | .local _ .vmem, ⟨2, _⟩ => ⟨S8x128, .f32⟩
  | .local _ .vmem, ⟨3, _⟩ => ⟨S8x2, .i32⟩
  | .local _ .vmem, ⟨4, _⟩ => ⟨S8x2, .i32⟩
  | .local _ .vmem, ⟨5, _⟩ => ⟨S8x128, .f32⟩
  | .local _ .smem, ⟨0, _⟩ => ⟨S4, .i32⟩
  | .local _ .smem, ⟨1, _⟩ => ⟨S2, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c : Ref sig .tc := ⟨.hbm, 19, rfl⟩
abbrev main_call0_v5 : Ref sig .tc := ⟨.hbm, 20, rfl⟩
abbrev main_call0_v6 : Ref sig .tc := ⟨.hbm, 21, rfl⟩
abbrev main_call0_c_0 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_call0_v0 : Ref sig .tc := ⟨.hbm, 27, rfl⟩
abbrev main_call0_call0_c : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_c_0 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c_1 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_c_2 : Ref sig .tc := ⟨.hbm, 44, rfl⟩
abbrev main_call0_call0_v14 : Ref sig .tc := ⟨.hbm, 45, rfl⟩
abbrev main_call0_call0_v15 : Ref sig .tc := ⟨.hbm, 46, rfl⟩
abbrev main_call0_call0_c_3 : Ref sig .tc := ⟨.hbm, 47, rfl⟩
abbrev main_call0_call0_v16 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_c_4 : Ref sig .tc := ⟨.hbm, 53, rfl⟩
abbrev main_call0_call0_v21 : Ref sig .tc := ⟨.hbm, 54, rfl⟩
abbrev main_call0_call0_v22 : Ref sig .tc := ⟨.hbm, 55, rfl⟩
abbrev main_call0_call0_c_5 : Ref sig .tc := ⟨.hbm, 56, rfl⟩
abbrev main_call0_call0_v23 : Ref sig .tc := ⟨.hbm, 57, rfl⟩
abbrev main_call0_call0_v24 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_v27 : Ref sig .tc := ⟨.hbm, 61, rfl⟩
abbrev main_call0_call0_c_6 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_c_7 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_v32 : Ref sig .tc := ⟨.hbm, 68, rfl⟩
abbrev main_call0_call0_v33 : Ref sig .tc := ⟨.hbm, 69, rfl⟩
abbrev main_call0_call0_v34 : Ref sig .tc := ⟨.hbm, 70, rfl⟩
abbrev main_call0_call0_v35 : Ref sig .tc := ⟨.hbm, 71, rfl⟩
abbrev main_call0_call0_v36 : Ref sig .tc := ⟨.hbm, 72, rfl⟩
abbrev main_call0_call0_v37 : Ref sig .tc := ⟨.hbm, 73, rfl⟩
abbrev main_call0_call0_c_8 : Ref sig .tc := ⟨.hbm, 74, rfl⟩
abbrev main_call0_call0_v38 : Ref sig .tc := ⟨.hbm, 75, rfl⟩
abbrev main_call0_call0_v39 : Ref sig .tc := ⟨.hbm, 76, rfl⟩
abbrev main_call0_call0_v40 : Ref sig .tc := ⟨.hbm, 77, rfl⟩
abbrev main_call0_call0_c_9 : Ref sig .tc := ⟨.hbm, 78, rfl⟩
abbrev main_call0_call0_v41 : Ref sig .tc := ⟨.hbm, 79, rfl⟩
abbrev main_call0_call0_v42 : Ref sig .tc := ⟨.hbm, 80, rfl⟩
abbrev main_call0_call0_c_10 : Ref sig .tc := ⟨.hbm, 81, rfl⟩
abbrev main_call0_call0_v43 : Ref sig .tc := ⟨.hbm, 82, rfl⟩
abbrev main_call0_call0_v44 : Ref sig .tc := ⟨.hbm, 83, rfl⟩
abbrev main_call0_call0_v45 : Ref sig .tc := ⟨.hbm, 84, rfl⟩
abbrev main_call0_call0_v46 : Ref sig .tc := ⟨.hbm, 85, rfl⟩
abbrev main_call0_call0_v47 : Ref sig .tc := ⟨.hbm, 86, rfl⟩
abbrev main_call0_call0_c_11 : Ref sig .tc := ⟨.hbm, 87, rfl⟩
abbrev main_call0_call0_v48 : Ref sig .tc := ⟨.hbm, 88, rfl⟩
abbrev main_call0_call0_v49 : Ref sig .tc := ⟨.hbm, 89, rfl⟩
abbrev main_call0_call0_c_12 : Ref sig .tc := ⟨.hbm, 90, rfl⟩
abbrev main_call0_call0_v50 : Ref sig .tc := ⟨.hbm, 91, rfl⟩
abbrev main_call0_call0_v51 : Ref sig .tc := ⟨.hbm, 92, rfl⟩
abbrev main_call0_call0_v52 : Ref sig .tc := ⟨.hbm, 93, rfl⟩
abbrev main_call0_call0_v53 : Ref sig .tc := ⟨.hbm, 94, rfl⟩
abbrev main_call0_call0_v54 : Ref sig .tc := ⟨.hbm, 95, rfl⟩
abbrev main_call0_call0_c_13 : Ref sig .tc := ⟨.hbm, 96, rfl⟩
abbrev main_call0_call0_v55 : Ref sig .tc := ⟨.hbm, 97, rfl⟩
abbrev main_call0_call0_v56 : Ref sig .tc := ⟨.hbm, 98, rfl⟩
abbrev main_call0_call0_c_14 : Ref sig .tc := ⟨.hbm, 99, rfl⟩
abbrev main_call0_call0_v57 : Ref sig .tc := ⟨.hbm, 100, rfl⟩
abbrev main_call0_call0_v58 : Ref sig .tc := ⟨.hbm, 101, rfl⟩
abbrev main_call0_call0_v59 : Ref sig .tc := ⟨.hbm, 102, rfl⟩
abbrev main_call0_call0_v60 : Ref sig .tc := ⟨.hbm, 103, rfl⟩
abbrev main_call0_call0_v61 : Ref sig .tc := ⟨.hbm, 104, rfl⟩
abbrev main_call0_call0_c_15 : Ref sig .tc := ⟨.hbm, 105, rfl⟩
abbrev main_call0_call0_v62 : Ref sig .tc := ⟨.hbm, 106, rfl⟩
abbrev main_call0_call0_v63 : Ref sig .tc := ⟨.hbm, 107, rfl⟩
abbrev main_call0_call0_c_16 : Ref sig .tc := ⟨.hbm, 108, rfl⟩
abbrev main_call0_call0_v64 : Ref sig .tc := ⟨.hbm, 109, rfl⟩
abbrev main_call0_call0_v65 : Ref sig .tc := ⟨.hbm, 110, rfl⟩
abbrev main_call0_call0_v66 : Ref sig .tc := ⟨.hbm, 111, rfl⟩
abbrev main_call0_call0_v67 : Ref sig .tc := ⟨.hbm, 112, rfl⟩
abbrev main_call0_call0_v68 : Ref sig .tc := ⟨.hbm, 113, rfl⟩
abbrev main_call0_call0_v69 : Ref sig .tc := ⟨.hbm, 114, rfl⟩
abbrev main_call0_call0_v70 : Ref sig .tc := ⟨.hbm, 115, rfl⟩
abbrev main_call0_call0_v71 : Ref sig .tc := ⟨.hbm, 116, rfl⟩
abbrev main_call0_call0_c_17 : Ref sig .tc := ⟨.hbm, 117, rfl⟩
abbrev main_call0_call0_v72 : Ref sig .tc := ⟨.hbm, 118, rfl⟩
abbrev main_call0_call0_v73 : Ref sig .tc := ⟨.hbm, 119, rfl⟩
abbrev main_call0_call0_v74 : Ref sig .tc := ⟨.hbm, 120, rfl⟩
abbrev main_call0_call0_c_18 : Ref sig .tc := ⟨.hbm, 121, rfl⟩
abbrev main_call0_call0_v75 : Ref sig .tc := ⟨.hbm, 122, rfl⟩
abbrev main_call0_call0_v76 : Ref sig .tc := ⟨.hbm, 123, rfl⟩
abbrev main_call0_call0_c_19 : Ref sig .tc := ⟨.hbm, 124, rfl⟩
abbrev main_call0_call0_v77 : Ref sig .tc := ⟨.hbm, 125, rfl⟩
abbrev main_call0_call0_v78 : Ref sig .tc := ⟨.hbm, 126, rfl⟩
abbrev main_call0_call0_v79 : Ref sig .tc := ⟨.hbm, 127, rfl⟩
abbrev main_call0_call0_v80 : Ref sig .tc := ⟨.hbm, 128, rfl⟩
abbrev main_call0_call0_v81 : Ref sig .tc := ⟨.hbm, 129, rfl⟩
abbrev main_call0_call0_c_20 : Ref sig .tc := ⟨.hbm, 130, rfl⟩
abbrev main_call0_call0_v82 : Ref sig .tc := ⟨.hbm, 131, rfl⟩
abbrev main_call0_call0_v83 : Ref sig .tc := ⟨.hbm, 132, rfl⟩
abbrev main_call0_call0_c_21 : Ref sig .tc := ⟨.hbm, 133, rfl⟩
abbrev main_call0_call0_v84 : Ref sig .tc := ⟨.hbm, 134, rfl⟩
abbrev main_call0_call0_v85 : Ref sig .tc := ⟨.hbm, 135, rfl⟩
abbrev main_call0_call0_v86 : Ref sig .tc := ⟨.hbm, 136, rfl⟩
abbrev main_call0_call0_v87 : Ref sig .tc := ⟨.hbm, 137, rfl⟩
abbrev main_call0_call0_v88 : Ref sig .tc := ⟨.hbm, 138, rfl⟩
abbrev main_call0_call0_c_22 : Ref sig .tc := ⟨.hbm, 139, rfl⟩
abbrev main_call0_call0_v89 : Ref sig .tc := ⟨.hbm, 140, rfl⟩
abbrev main_call0_call0_v90 : Ref sig .tc := ⟨.hbm, 141, rfl⟩
abbrev main_call0_call0_c_23 : Ref sig .tc := ⟨.hbm, 142, rfl⟩
abbrev main_call0_call0_v91 : Ref sig .tc := ⟨.hbm, 143, rfl⟩
abbrev main_call0_call0_v92 : Ref sig .tc := ⟨.hbm, 144, rfl⟩
abbrev main_call0_call0_v93 : Ref sig .tc := ⟨.hbm, 145, rfl⟩
abbrev main_call0_call0_v94 : Ref sig .tc := ⟨.hbm, 146, rfl⟩
abbrev main_call0_call0_v95 : Ref sig .tc := ⟨.hbm, 147, rfl⟩
abbrev main_call0_call0_c_24 : Ref sig .tc := ⟨.hbm, 148, rfl⟩
abbrev main_call0_call0_v96 : Ref sig .tc := ⟨.hbm, 149, rfl⟩
abbrev main_call0_call0_v97 : Ref sig .tc := ⟨.hbm, 150, rfl⟩
abbrev main_call0_call0_c_25 : Ref sig .tc := ⟨.hbm, 151, rfl⟩
abbrev main_call0_call0_v98 : Ref sig .tc := ⟨.hbm, 152, rfl⟩
abbrev main_call0_call0_v99 : Ref sig .tc := ⟨.hbm, 153, rfl⟩
abbrev main_call0_call0_v100 : Ref sig .tc := ⟨.hbm, 154, rfl⟩
abbrev main_call0_call0_v101 : Ref sig .tc := ⟨.hbm, 155, rfl⟩
abbrev main_call0_call0_v102 : Ref sig .tc := ⟨.hbm, 156, rfl⟩
abbrev main_call0_call0_v103 : Ref sig .tc := ⟨.hbm, 157, rfl⟩
abbrev main_call0_call0_v104 : Ref sig .tc := ⟨.hbm, 158, rfl⟩
abbrev main_call0_call0_v105 : Ref sig .tc := ⟨.hbm, 159, rfl⟩
abbrev main_call0_call0_c_26 : Ref sig .tc := ⟨.hbm, 160, rfl⟩
abbrev main_call0_call0_v106 : Ref sig .tc := ⟨.hbm, 161, rfl⟩
abbrev main_call0_call0_v107 : Ref sig .tc := ⟨.hbm, 162, rfl⟩
abbrev main_call0_call0_v108 : Ref sig .tc := ⟨.hbm, 163, rfl⟩
abbrev main_call0_call0_c_27 : Ref sig .tc := ⟨.hbm, 164, rfl⟩
abbrev main_call0_call0_v109 : Ref sig .tc := ⟨.hbm, 165, rfl⟩
abbrev main_call0_call0_v110 : Ref sig .tc := ⟨.hbm, 166, rfl⟩
abbrev main_call0_call0_c_28 : Ref sig .tc := ⟨.hbm, 167, rfl⟩
abbrev main_call0_call0_v111 : Ref sig .tc := ⟨.hbm, 168, rfl⟩
abbrev main_call0_call0_v112 : Ref sig .tc := ⟨.hbm, 169, rfl⟩
abbrev main_call0_call0_v113 : Ref sig .tc := ⟨.hbm, 170, rfl⟩
abbrev main_call0_call0_v114 : Ref sig .tc := ⟨.hbm, 171, rfl⟩
abbrev main_call0_call0_v115 : Ref sig .tc := ⟨.hbm, 172, rfl⟩
abbrev main_call0_call0_c_29 : Ref sig .tc := ⟨.hbm, 173, rfl⟩
abbrev main_call0_call0_v116 : Ref sig .tc := ⟨.hbm, 174, rfl⟩
abbrev main_call0_call0_v117 : Ref sig .tc := ⟨.hbm, 175, rfl⟩
abbrev main_call0_call0_c_30 : Ref sig .tc := ⟨.hbm, 176, rfl⟩
abbrev main_call0_call0_v118 : Ref sig .tc := ⟨.hbm, 177, rfl⟩
abbrev main_call0_call0_v119 : Ref sig .tc := ⟨.hbm, 178, rfl⟩
abbrev main_call0_call0_v120 : Ref sig .tc := ⟨.hbm, 179, rfl⟩
abbrev main_call0_call0_v121 : Ref sig .tc := ⟨.hbm, 180, rfl⟩
abbrev main_call0_call0_v122 : Ref sig .tc := ⟨.hbm, 181, rfl⟩
abbrev main_call0_call0_c_31 : Ref sig .tc := ⟨.hbm, 182, rfl⟩
abbrev main_call0_call0_v123 : Ref sig .tc := ⟨.hbm, 183, rfl⟩
abbrev main_call0_call0_v124 : Ref sig .tc := ⟨.hbm, 184, rfl⟩
abbrev main_call0_call0_c_32 : Ref sig .tc := ⟨.hbm, 185, rfl⟩
abbrev main_call0_call0_v125 : Ref sig .tc := ⟨.hbm, 186, rfl⟩
abbrev main_call0_call0_v126 : Ref sig .tc := ⟨.hbm, 187, rfl⟩
abbrev main_call0_call0_v127 : Ref sig .tc := ⟨.hbm, 188, rfl⟩
abbrev main_call0_call0_v128 : Ref sig .tc := ⟨.hbm, 189, rfl⟩
abbrev main_call0_call0_v129 : Ref sig .tc := ⟨.hbm, 190, rfl⟩
abbrev main_call0_call0_c_33 : Ref sig .tc := ⟨.hbm, 191, rfl⟩
abbrev main_call0_call0_v130 : Ref sig .tc := ⟨.hbm, 192, rfl⟩
abbrev main_call0_call0_v131 : Ref sig .tc := ⟨.hbm, 193, rfl⟩
abbrev main_call0_call0_c_34 : Ref sig .tc := ⟨.hbm, 194, rfl⟩
abbrev main_call0_call0_v132 : Ref sig .tc := ⟨.hbm, 195, rfl⟩
abbrev main_call0_call0_v133 : Ref sig .tc := ⟨.hbm, 196, rfl⟩
abbrev main_call0_call0_v134 : Ref sig .tc := ⟨.hbm, 197, rfl⟩
abbrev main_call0_call0_v135 : Ref sig .tc := ⟨.hbm, 198, rfl⟩
abbrev main_call0_call0_v136 : Ref sig .tc := ⟨.hbm, 199, rfl⟩
abbrev main_call0_call0_v137 : Ref sig .tc := ⟨.hbm, 200, rfl⟩
abbrev main_call0_call0_v138 : Ref sig .tc := ⟨.hbm, 201, rfl⟩
abbrev main_call0_call0_v139 : Ref sig .tc := ⟨.hbm, 202, rfl⟩
abbrev main_call0_call0_c_35 : Ref sig .tc := ⟨.hbm, 203, rfl⟩
abbrev main_call0_call0_v140 : Ref sig .tc := ⟨.hbm, 204, rfl⟩
abbrev main_call0_call0_v141 : Ref sig .tc := ⟨.hbm, 205, rfl⟩
abbrev main_call0_call0_v142 : Ref sig .tc := ⟨.hbm, 206, rfl⟩
abbrev main_call0_call0_c_36 : Ref sig .tc := ⟨.hbm, 207, rfl⟩
abbrev main_call0_call0_v143 : Ref sig .tc := ⟨.hbm, 208, rfl⟩
abbrev main_call0_call0_v144 : Ref sig .tc := ⟨.hbm, 209, rfl⟩
abbrev main_call0_call0_c_37 : Ref sig .tc := ⟨.hbm, 210, rfl⟩
abbrev main_call0_call0_v145 : Ref sig .tc := ⟨.hbm, 211, rfl⟩
abbrev main_call0_call0_v146 : Ref sig .tc := ⟨.hbm, 212, rfl⟩
abbrev main_call0_call0_v147 : Ref sig .tc := ⟨.hbm, 213, rfl⟩
abbrev main_call0_call0_v148 : Ref sig .tc := ⟨.hbm, 214, rfl⟩
abbrev main_call0_call0_v149 : Ref sig .tc := ⟨.hbm, 215, rfl⟩
abbrev main_call0_call0_c_38 : Ref sig .tc := ⟨.hbm, 216, rfl⟩
abbrev main_call0_call0_v150 : Ref sig .tc := ⟨.hbm, 217, rfl⟩
abbrev main_call0_call0_v151 : Ref sig .tc := ⟨.hbm, 218, rfl⟩
abbrev main_call0_call0_c_39 : Ref sig .tc := ⟨.hbm, 219, rfl⟩
abbrev main_call0_call0_v152 : Ref sig .tc := ⟨.hbm, 220, rfl⟩
abbrev main_call0_call0_v153 : Ref sig .tc := ⟨.hbm, 221, rfl⟩
abbrev main_call0_call0_v154 : Ref sig .tc := ⟨.hbm, 222, rfl⟩
abbrev main_call0_call0_v155 : Ref sig .tc := ⟨.hbm, 223, rfl⟩
abbrev main_call0_call0_v156 : Ref sig .tc := ⟨.hbm, 224, rfl⟩
abbrev main_call0_call0_c_40 : Ref sig .tc := ⟨.hbm, 225, rfl⟩
abbrev main_call0_call0_v157 : Ref sig .tc := ⟨.hbm, 226, rfl⟩
abbrev main_call0_call0_v158 : Ref sig .tc := ⟨.hbm, 227, rfl⟩
abbrev main_call0_call0_c_41 : Ref sig .tc := ⟨.hbm, 228, rfl⟩
abbrev main_call0_call0_v159 : Ref sig .tc := ⟨.hbm, 229, rfl⟩
abbrev main_call0_call0_v160 : Ref sig .tc := ⟨.hbm, 230, rfl⟩
abbrev main_call0_call0_v161 : Ref sig .tc := ⟨.hbm, 231, rfl⟩
abbrev main_call0_call0_v162 : Ref sig .tc := ⟨.hbm, 232, rfl⟩
abbrev main_call0_call0_v163 : Ref sig .tc := ⟨.hbm, 233, rfl⟩
abbrev main_call0_call0_c_42 : Ref sig .tc := ⟨.hbm, 234, rfl⟩
abbrev main_call0_call0_v164 : Ref sig .tc := ⟨.hbm, 235, rfl⟩
abbrev main_call0_call0_v165 : Ref sig .tc := ⟨.hbm, 236, rfl⟩
abbrev main_call0_call0_c_43 : Ref sig .tc := ⟨.hbm, 237, rfl⟩
abbrev main_call0_call0_v166 : Ref sig .tc := ⟨.hbm, 238, rfl⟩
abbrev main_call0_call0_v167 : Ref sig .tc := ⟨.hbm, 239, rfl⟩
abbrev main_call0_call0_v168 : Ref sig .tc := ⟨.hbm, 240, rfl⟩
abbrev main_call0_call0_v169 : Ref sig .tc := ⟨.hbm, 241, rfl⟩
abbrev main_call0_call0_v170 : Ref sig .tc := ⟨.hbm, 242, rfl⟩
abbrev main_call0_v11_0 : Ref sig .tc := ⟨.hbm, 243, rfl⟩
abbrev main_call0_call0_v172 : Ref sig .tc := ⟨.hbm, 244, rfl⟩
abbrev main_call0_call0_v173 : Ref sig .tc := ⟨.hbm, 245, rfl⟩
abbrev main_call0_call0_c_44 : Ref sig .tc := ⟨.hbm, 246, rfl⟩
abbrev main_call0_call0_v174 : Ref sig .tc := ⟨.hbm, 247, rfl⟩
abbrev main_call0_v11_1 : Ref sig .tc := ⟨.hbm, 248, rfl⟩
abbrev main_call0_v12 : Ref sig .tc := ⟨.hbm, 249, rfl⟩
abbrev main_call0_v13 : Ref sig .tc := ⟨.hbm, 250, rfl⟩
abbrev main_v7 : Ref sig .tc := ⟨.hbm, 251, rfl⟩
abbrev main_v8 : Ref sig .tc := ⟨.hbm, 252, rfl⟩
abbrev main_v9 : Ref sig .tc := ⟨.hbm, 253, rfl⟩
abbrev main_v10 : Ref sig .tc := ⟨.hbm, 254, rfl⟩
abbrev main_v11 : Ref sig .tc := ⟨.hbm, 255, rfl⟩
abbrev main_v12 : Ref sig .tc := ⟨.hbm, 256, rfl⟩
abbrev main_v13 : Ref sig .tc := ⟨.hbm, 257, rfl⟩
abbrev main_v14 : Ref sig .tc := ⟨.hbm, 258, rfl⟩
abbrev main_v15 : Ref sig .tc := ⟨.hbm, 259, rfl⟩
abbrev main_v16 : Ref sig .tc := ⟨.hbm, 260, rfl⟩
abbrev main_v17_0 : Ref sig .tc := ⟨.hbm, 261, rfl⟩
abbrev main_v17_1 : Ref sig .tc := ⟨.hbm, 262, rfl⟩
abbrev main_v18 : Ref sig .tc := ⟨.hbm, 263, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_1 : BitVec 32 := 0#32
  let c12_i32 : BitVec 32 := 12#32
  let v18 : BitVec 32 := Scalar.addi c0_i32_1 c12_i32
  let c1_i32 : BitVec 32 := 1#32
  ⟨c0_i32_1, v18, c1_i32⟩
def k0_off1 (k0_t1 : Fin k0_t1_loop.trips) (c0_i32_218 : BitVec 32) : Fin 2 → Nat :=
  let c0_220 : Index := 0#32
  let c0_i32_1 : BitVec 32 := 0#32
  let c1_i32 : BitVec 32 := 1#32
  let arg7 : BitVec 32 := Scf.iv c0_i32_1 c1_i32 k0_t1
  let c8_i32_217 : BitVec 32 := 8#32
  let v848 : BitVec 32 := Scalar.muli arg7 c8_i32_217
  let v849 : BitVec 32 := Scalar.addi v848 c0_i32_218
  let c1024_i32_219 : BitVec 32 := 1024#32
  let v850 : BitVec 32 := Scalar.muli v849 c1024_i32_219
  let v851 : Index := Scalar.indexCast v850
  ![0, v851.toNat]
def k0_cond1 (i : grid0.Coords) : BitVec 1 :=
  let arg0 : BitVec 32 := BitVec.ofNat 32 (i 0).val
  let c0_i32_215 : BitVec 32 := 0#32
  let v845 : BitVec 1 := Scalar.cmpi .eq arg0 c0_i32_215
  let v846 : BitVec 32 := Scalar.extui v845
  let c0_i32_216 : BitVec 32 := 0#32
  let v847 : BitVec 1 := Scalar.cmpi .ne v846 c0_i32_216
  v847

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1024x100000 : Shape := ⟨2, ![1024, 100000]⟩
abbrev S_ : Shape := ⟨0, ![]⟩
abbrev S1024 : Shape := ⟨1, ![1024]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1x1 : Shape := ⟨3, ![1, 1, 1]⟩
abbrev S2x1024x100000 : Shape := ⟨3, ![2, 1024, 100000]⟩
abbrev S1x1024x100000 : Shape := ⟨3, ![1, 1024, 100000]⟩
abbrev S2x1024 : Shape := ⟨2, ![2, 1024]⟩
abbrev S1024x2 : Shape := ⟨2, ![1024, 2]⟩

abbrev nBuf : Space → Nat
  | .hbm => 814
  | .vmem => 0
  | .smem => 0
  | _ => 0

abbrev hbmTy0_0 (i : Nat) : BufTy := match i % 128 with
  | 0 => ⟨S1024x100000, .f32⟩
  | 1 => ⟨S_, .f32⟩
  | 2 => ⟨S1024, .f32⟩
  | 3 => ⟨S_, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S1, .i32⟩
  | 15 => ⟨S_, .i32⟩
  | 16 => ⟨S1, .i32⟩
  | 17 => ⟨S_, .i32⟩
  | 18 => ⟨S2, .i64⟩
  | 19 => ⟨S_, .i64⟩
  | 20 => ⟨S2, .i64⟩
  | 21 => ⟨S2, .i64⟩
  | 22 => ⟨S_, .i64⟩
  | 23 => ⟨S2, .i64⟩
  | 24 => ⟨S2, .i64⟩
  | 25 => ⟨S2, .i32⟩
  | 26 => ⟨S2, .i32⟩
  | 27 => ⟨S_, .i32⟩
  | 28 => ⟨S_, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S1024x100000, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2x1, .i32⟩
  | 122 => ⟨S2x1, .i32⟩
  | 123 => ⟨S2x2, .i32⟩
  | 124 => ⟨S1x2, .i32⟩
  | 125 => ⟨S2, .i32⟩
  | 126 => ⟨S1x2, .i32⟩
  | 127 => ⟨S2, .i32⟩
  | _ => ⟨S1024x100000, .f32⟩

abbrev hbmTy0_2 (i : Nat) : BufTy := match i % 128 with
  | 0 => ⟨S1024x100000, .f32⟩
  | 1 => ⟨S1024x100000, .f32⟩
  | 2 => ⟨S_, .f32⟩
  | 3 => ⟨S_, .f32⟩
  | 4 => ⟨S_, .f32⟩
  | 5 => ⟨S_, .f32⟩
  | 6 => ⟨S1x1x1, .f32⟩
  | 7 => ⟨S1x1x1, .f32⟩
  | 8 => ⟨S1, .i32⟩
  | 9 => ⟨S_, .i32⟩
  | 10 => ⟨S1, .i32⟩
  | 11 => ⟨S_, .i32⟩
  | 12 => ⟨S2x1024x100000, .i64⟩
  | 13 => ⟨S2x1024x100000, .i64⟩
  | 14 => ⟨S2x1024x100000, .i64⟩
  | 15 => ⟨S_, .i64⟩
  | 16 => ⟨S2x1024x100000, .i64⟩
  | 17 => ⟨S2x1024x100000, .i64⟩
  | 18 => ⟨S_, .i64⟩
  | 19 => ⟨S2x1024x100000, .i64⟩
  | 20 => ⟨S2x1024x100000, .i64⟩
  | 21 => ⟨S_, .i64⟩
  | 22 => ⟨S2x1024x100000, .i64⟩
  | 23 => ⟨S2x1024x100000, .i64⟩
  | 24 => ⟨S2x1024x100000, .i64⟩
  | 25 => ⟨S2x1024x100000, .i64⟩
  | 26 => ⟨S_, .i64⟩
  | 27 => ⟨S2x1024x100000, .i64⟩
  | 28 => ⟨S2x1024x100000, .i64⟩
  | 29 => ⟨S2x1024x100000, .i32⟩
  | 30 => ⟨S2x1024x100000, .i32⟩
  | 31 => ⟨S_, .i32⟩
  | 32 => ⟨S_, .i32⟩
  | 33 => ⟨S_, .i32⟩
  | 34 => ⟨S2x1024x100000, .i32⟩
  | 35 => ⟨S2x1024x100000, .i32⟩
  | 36 => ⟨S2x1024x100000, .i32⟩
  | 37 => ⟨S2x1024x100000, .i32⟩
  | 38 => ⟨S2x1024x100000, .i32⟩
  | 39 => ⟨S_, .i32⟩
  | 40 => ⟨S2x1024x100000, .i32⟩
  | 41 => ⟨S2x1024x100000, .i32⟩
  | 42 => ⟨S_, .i32⟩
  | 43 => ⟨S2x1024x100000, .i32⟩
  | 44 => ⟨S2x1024x100000, .i32⟩
  | 45 => ⟨S2x1024x100000, .i32⟩
  | 46 => ⟨S2x1024x100000, .i32⟩
  | 47 => ⟨S2x1024x100000, .i32⟩
  | 48 => ⟨S_, .i32⟩
  | 49 => ⟨S2x1024x100000, .i32⟩
  | 50 => ⟨S2x1024x100000, .i32⟩
  | 51 => ⟨S_, .i32⟩
  | 52 => ⟨S2x1024x100000, .i32⟩
  | 53 => ⟨S2x1024x100000, .i32⟩
  | 54 => ⟨S2x1024x100000, .i32⟩
  | 55 => ⟨S2x1024x100000, .i32⟩
  | 56 => ⟨S2x1024x100000, .i32⟩
  | 57 => ⟨S_, .i32⟩
  | 58 => ⟨S2x1024x100000, .i32⟩
  | 59 => ⟨S2x1024x100000, .i32⟩
  | 60 => ⟨S_, .i32⟩
  | 61 => ⟨S2x1024x100000, .i32⟩
  | 62 => ⟨S2x1024x100000, .i32⟩
  | 63 => ⟨S2x1024x100000, .i32⟩
  | 64 => ⟨S2x1024x100000, .i32⟩
  | 65 => ⟨S2x1024x100000, .i32⟩
  | 66 => ⟨S_, .i32⟩
  | 67 => ⟨S2x1024x100000, .i32⟩
  | 68 => ⟨S2x1024x100000, .i32⟩
  | 69 => ⟨S_, .i32⟩
  | 70 => ⟨S2x1024x100000, .i32⟩
  | 71 => ⟨S2x1024x100000, .i32⟩
  | 72 => ⟨S2x1024x100000, .i32⟩
  | 73 => ⟨S2x1024x100000, .i32⟩
  | 74 => ⟨S2x1024x100000, .i32⟩
  | 75 => ⟨S2x1024x100000, .i32⟩
  | 76 => ⟨S2x1024x100000, .i32⟩
  | 77 => ⟨S2x1024x100000, .i32⟩
  | 78 => ⟨S_, .i32⟩
  | 79 => ⟨S2x1024x100000, .i32⟩
  | 80 => ⟨S2x1024x100000, .i32⟩
  | 81 => ⟨S2x1024x100000, .i32⟩
  | 82 => ⟨S_, .i32⟩
  | 83 => ⟨S2x1024x100000, .i32⟩
  | 84 => ⟨S2x1024x100000, .i32⟩
  | 85 => ⟨S_, .i32⟩
  | 86 => ⟨S2x1024x100000, .i32⟩
  | 87 => ⟨S2x1024x100000, .i32⟩
  | 88 => ⟨S2x1024x100000, .i32⟩
  | 89 => ⟨S2x1024x100000, .i32⟩
  | 90 => ⟨S2x1024x100000, .i32⟩
  | 91 => ⟨S_, .i32⟩
  | 92 => ⟨S2x1024x100000, .i32⟩
  | 93 => ⟨S2x1024x100000, .i32⟩
  | 94 => ⟨S_, .i32⟩
  | 95 => ⟨S2x1024x100000, .i32⟩
  | 96 => ⟨S2x1024x100000, .i32⟩
  | 97 => ⟨S2x1024x100000, .i32⟩
  | 98 => ⟨S2x1024x100000, .i32⟩
  | 99 => ⟨S2x1024x100000, .i32⟩
  | 100 => ⟨S_, .i32⟩
  | 101 => ⟨S2x1024x100000, .i32⟩
  | 102 => ⟨S2x1024x100000, .i32⟩
  | 103 => ⟨S_, .i32⟩
  | 104 => ⟨S2x1024x100000, .i32⟩
  | 105 => ⟨S2x1024x100000, .i32⟩
  | 106 => ⟨S2x1024x100000, .i32⟩
  | 107 => ⟨S2x1024x100000, .i32⟩
  | 108 => ⟨S2x1024x100000, .i32⟩
  | 109 => ⟨S_, .i32⟩
  | 110 => ⟨S2x1024x100000, .i32⟩
  | 111 => ⟨S2x1024x100000, .i32⟩
  | 112 => ⟨S_, .i32⟩
  | 113 => ⟨S2x1024x100000, .i32⟩
  | 114 => ⟨S2x1024x100000, .i32⟩
  | 115 => ⟨S2x1024x100000, .i32⟩
  | 116 => ⟨S2x1024x100000, .i32⟩
  | 117 => ⟨S2x1024x100000, .i32⟩
  | 118 => ⟨S2x1024x100000, .i32⟩
  | 119 => ⟨S2x1024x100000, .i32⟩
  | 120 => ⟨S2x1024x100000, .i32⟩
  | 121 => ⟨S_, .i32⟩
  | 122 => ⟨S2x1024x100000, .i32⟩
  | 123 => ⟨S2x1024x100000, .i32⟩
  | 124 => ⟨S2x1024x100000, .i32⟩
  | 125 => ⟨S_, .i32⟩
  | 126 => ⟨S2x1024x100000, .i32⟩
  | 127 => ⟨S2x1024x100000, .i32⟩
  | _ => ⟨S1024x100000, .f32⟩

abbrev hbmTy0_3 (i : Nat) : BufTy := match i % 128 with
  | 0 => ⟨S_, .i32⟩
  | 1 => ⟨S2x1024x100000, .i32⟩
  | 2 => ⟨S2x1024x100000, .i32⟩
  | 3 => ⟨S2x1024x100000, .i32⟩
  | 4 => ⟨S2x1024x100000, .i32⟩
  | 5 => ⟨S2x1024x100000, .i32⟩
  | 6 => ⟨S_, .i32⟩
  | 7 => ⟨S2x1024x100000, .i32⟩
  | 8 => ⟨S2x1024x100000, .i32⟩
  | 9 => ⟨S_, .i32⟩
  | 10 => ⟨S2x1024x100000, .i32⟩
  | 11 => ⟨S2x1024x100000, .i32⟩
  | 12 => ⟨S2x1024x100000, .i32⟩
  | 13 => ⟨S2x1024x100000, .i32⟩
  | 14 => ⟨S2x1024x100000, .i32⟩
  | 15 => ⟨S_, .i32⟩
  | 16 => ⟨S2x1024x100000, .i32⟩
  | 17 => ⟨S2x1024x100000, .i32⟩
  | 18 => ⟨S_, .i32⟩
  | 19 => ⟨S2x1024x100000, .i32⟩
  | 20 => ⟨S2x1024x100000, .i32⟩
  | 21 => ⟨S2x1024x100000, .i32⟩
  | 22 => ⟨S2x1024x100000, .i32⟩
  | 23 => ⟨S2x1024x100000, .i32⟩
  | 24 => ⟨S_, .i32⟩
  | 25 => ⟨S2x1024x100000, .i32⟩
  | 26 => ⟨S2x1024x100000, .i32⟩
  | 27 => ⟨S_, .i32⟩
  | 28 => ⟨S2x1024x100000, .i32⟩
  | 29 => ⟨S2x1024x100000, .i32⟩
  | 30 => ⟨S2x1024x100000, .i32⟩
  | 31 => ⟨S2x1024x100000, .i32⟩
  | 32 => ⟨S2x1024x100000, .i32⟩
  | 33 => ⟨S2x1024x100000, .i32⟩
  | 34 => ⟨S2x1024x100000, .i32⟩
  | 35 => ⟨S2x1024x100000, .i32⟩
  | 36 => ⟨S_, .i32⟩
  | 37 => ⟨S2x1024x100000, .i32⟩
  | 38 => ⟨S2x1024x100000, .i32⟩
  | 39 => ⟨S2x1024x100000, .i32⟩
  | 40 => ⟨S_, .i32⟩
  | 41 => ⟨S2x1024x100000, .i32⟩
  | 42 => ⟨S2x1024x100000, .i32⟩
  | 43 => ⟨S_, .i32⟩
  | 44 => ⟨S2x1024x100000, .i32⟩
  | 45 => ⟨S2x1024x100000, .i32⟩
  | 46 => ⟨S2x1024x100000, .i32⟩
  | 47 => ⟨S2x1024x100000, .i32⟩
  | 48 => ⟨S2x1024x100000, .i32⟩
  | 49 => ⟨S_, .i32⟩
  | 50 => ⟨S2x1024x100000, .i32⟩
  | 51 => ⟨S2x1024x100000, .i32⟩
  | 52 => ⟨S_, .i32⟩
  | 53 => ⟨S2x1024x100000, .i32⟩
  | 54 => ⟨S2x1024x100000, .i32⟩
  | 55 => ⟨S2x1024x100000, .i32⟩
  | 56 => ⟨S2x1024x100000, .i32⟩
  | 57 => ⟨S2x1024x100000, .i32⟩
  | 58 => ⟨S_, .i32⟩
  | 59 => ⟨S2x1024x100000, .i32⟩
  | 60 => ⟨S2x1024x100000, .i32⟩
  | 61 => ⟨S_, .i32⟩
  | 62 => ⟨S2x1024x100000, .i32⟩
  | 63 => ⟨S2x1024x100000, .i32⟩
  | 64 => ⟨S2x1024x100000, .i32⟩
  | 65 => ⟨S2x1024x100000, .i32⟩
  | 66 => ⟨S2x1024x100000, .i32⟩
  | 67 => ⟨S_, .i32⟩
  | 68 => ⟨S2x1024x100000, .i32⟩
  | 69 => ⟨S2x1024x100000, .i32⟩
  | 70 => ⟨S_, .i32⟩
  | 71 => ⟨S2x1024x100000, .i32⟩
  | 72 => ⟨S2x1024x100000, .i32⟩
  | 73 => ⟨S2x1024x100000, .i32⟩
  | 74 => ⟨S2x1024x100000, .i32⟩
  | 75 => ⟨S2x1024x100000, .i32⟩
  | 76 => ⟨S2x1024x100000, .i32⟩
  | 77 => ⟨S2x1024x100000, .i32⟩
  | 78 => ⟨S2x1024x100000, .i32⟩
  | 79 => ⟨S_, .i32⟩
  | 80 => ⟨S2x1024x100000, .i32⟩
  | 81 => ⟨S2x1024x100000, .i32⟩
  | 82 => ⟨S2x1024x100000, .i32⟩
  | 83 => ⟨S_, .i32⟩
  | 84 => ⟨S2x1024x100000, .i32⟩
  | 85 => ⟨S2x1024x100000, .i32⟩
  | 86 => ⟨S_, .i32⟩
  | 87 => ⟨S2x1024x100000, .i32⟩
  | 88 => ⟨S2x1024x100000, .i32⟩
  | 89 => ⟨S2x1024x100000, .i32⟩
  | 90 => ⟨S2x1024x100000, .i32⟩
  | 91 => ⟨S2x1024x100000, .i32⟩
  | 92 => ⟨S_, .i32⟩
  | 93 => ⟨S2x1024x100000, .i32⟩
  | 94 => ⟨S2x1024x100000, .i32⟩
  | 95 => ⟨S_, .i32⟩
  | 96 => ⟨S2x1024x100000, .i32⟩
  | 97 => ⟨S2x1024x100000, .i32⟩
  | 98 => ⟨S2x1024x100000, .i32⟩
  | 99 => ⟨S2x1024x100000, .i32⟩
  | 100 => ⟨S2x1024x100000, .i32⟩
  | 101 => ⟨S_, .i32⟩
  | 102 => ⟨S2x1024x100000, .i32⟩
  | 103 => ⟨S2x1024x100000, .i32⟩
  | 104 => ⟨S_, .i32⟩
  | 105 => ⟨S2x1024x100000, .i32⟩
  | 106 => ⟨S2x1024x100000, .i32⟩
  | 107 => ⟨S2x1024x100000, .i32⟩
  | 108 => ⟨S2x1024x100000, .i32⟩
  | 109 => ⟨S2x1024x100000, .i32⟩
  | 110 => ⟨S_, .i32⟩
  | 111 => ⟨S2x1024x100000, .i32⟩
  | 112 => ⟨S2x1024x100000, .i32⟩
  | 113 => ⟨S_, .i32⟩
  | 114 => ⟨S2x1024x100000, .i32⟩
  | 115 => ⟨S2x1024x100000, .i32⟩
  | 116 => ⟨S2x1024x100000, .i32⟩
  | 117 => ⟨S2x1024x100000, .i32⟩
  | 118 => ⟨S2x1024x100000, .i32⟩
  | 119 => ⟨S2x1024x100000, .i32⟩
  | 120 => ⟨S2x1024x100000, .i32⟩
  | 121 => ⟨S2x1024x100000, .i32⟩
  | 122 => ⟨S_, .i32⟩
  | 123 => ⟨S2x1024x100000, .i32⟩
  | 124 => ⟨S2x1024x100000, .i32⟩
  | 125 => ⟨S2x1024x100000, .i32⟩
  | 126 => ⟨S_, .i32⟩
  | 127 => ⟨S2x1024x100000, .i32⟩
  | _ => ⟨S1024x100000, .f32⟩

abbrev hbmTy0_4 (i : Nat) : BufTy := match i % 128 with
  | 0 => ⟨S2x1024x100000, .i32⟩
  | 1 => ⟨S_, .i32⟩
  | 2 => ⟨S2x1024x100000, .i32⟩
  | 3 => ⟨S2x1024x100000, .i32⟩
  | 4 => ⟨S2x1024x100000, .f32⟩
  | 5 => ⟨S_, .f32⟩
  | 6 => ⟨S2x1024x100000, .f32⟩
  | 7 => ⟨S2x1024x100000, .f32⟩
  | 8 => ⟨S1x1x1, .f32⟩
  | 9 => ⟨S2x1024x100000, .f32⟩
  | 10 => ⟨S2x1024x100000, .f32⟩
  | 11 => ⟨S2x1024x100000, .f32⟩
  | 12 => ⟨S2x1024x100000, .f32⟩
  | 13 => ⟨S2x1024x100000, .f32⟩
  | 14 => ⟨S2x1024x100000, .f32⟩
  | 15 => ⟨S_, .f32⟩
  | 16 => ⟨S2x1024x100000, .f32⟩
  | 17 => ⟨S2x1024x100000, .f32⟩
  | 18 => ⟨S2x1024x100000, .f32⟩
  | 19 => ⟨S2x1024x100000, .f32⟩
  | 20 => ⟨S2x1024x100000, .f32⟩
  | 21 => ⟨S2x1024x100000, .f32⟩
  | 22 => ⟨S1x1024x100000, .f32⟩
  | 23 => ⟨S2x1024x100000, .f32⟩
  | 24 => ⟨S2x1024x100000, .f32⟩
  | 25 => ⟨S2x1024x100000, .i32⟩
  | 26 => ⟨S_, .f32⟩
  | 27 => ⟨S_, .i32⟩
  | 28 => ⟨S2x1024, .f32⟩
  | 29 => ⟨S2x1024, .i32⟩
  | 30 => ⟨S1024x2, .i32⟩
  | 31 => ⟨S1024, .f32⟩
  | 32 => ⟨S1024, .f32⟩
  | 33 => ⟨S1024, .f32⟩
  | 34 => ⟨S1024, .f32⟩
  | 35 => ⟨S_, .f32⟩
  | 36 => ⟨S1024, .f32⟩
  | 37 => ⟨S1024, .f32⟩
  | 38 => ⟨S_, .f32⟩
  | 39 => ⟨S1024, .f32⟩
  | 40 => ⟨S1024, .f32⟩
  | 41 => ⟨S_, .f32⟩
  | 42 => ⟨S_, .f32⟩
  | 43 => ⟨S_, .f32⟩
  | 44 => ⟨S_, .f32⟩
  | 45 => ⟨S1, .f32⟩
  | 46 => ⟨S1, .f32⟩
  | 47 => ⟨S1, .i32⟩
  | 48 => ⟨S_, .i32⟩
  | 49 => ⟨S1, .i32⟩
  | 50 => ⟨S_, .i32⟩
  | 51 => ⟨S1024, .i64⟩
  | 52 => ⟨S_, .i64⟩
  | 53 => ⟨S1024, .i64⟩
  | 54 => ⟨S1024, .i64⟩
  | 55 => ⟨S_, .i64⟩
  | 56 => ⟨S1024, .i64⟩
  | 57 => ⟨S1024, .i64⟩
  | 58 => ⟨S1024, .i32⟩
  | 59 => ⟨S1024, .i32⟩
  | 60 => ⟨S_, .i32⟩
  | 61 => ⟨S_, .i32⟩
  | 62 => ⟨S_, .i32⟩
  | 63 => ⟨S1024, .i32⟩
  | 64 => ⟨S1024, .i32⟩
  | 65 => ⟨S1024, .i32⟩
  | 66 => ⟨S1024, .i32⟩
  | 67 => ⟨S1024, .i32⟩
  | 68 => ⟨S_, .i32⟩
  | 69 => ⟨S1024, .i32⟩
  | 70 => ⟨S1024, .i32⟩
  | 71 => ⟨S_, .i32⟩
  | 72 => ⟨S1024, .i32⟩
  | 73 => ⟨S1024, .i32⟩
  | 74 => ⟨S1024, .i32⟩
  | 75 => ⟨S1024, .i32⟩
  | 76 => ⟨S1024, .i32⟩
  | 77 => ⟨S_, .i32⟩
  | 78 => ⟨S1024, .i32⟩
  | 79 => ⟨S1024, .i32⟩
  | 80 => ⟨S_, .i32⟩
  | 81 => ⟨S1024, .i32⟩
  | 82 => ⟨S1024, .i32⟩
  | 83 => ⟨S1024, .i32⟩
  | 84 => ⟨S1024, .i32⟩
  | 85 => ⟨S1024, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i32⟩
  | 92 => ⟨S1024, .i32⟩
  | 93 => ⟨S1024, .i32⟩
  | 94 => ⟨S1024, .i32⟩
  | 95 => ⟨S_, .i32⟩
  | 96 => ⟨S1024, .i32⟩
  | 97 => ⟨S1024, .i32⟩
  | 98 => ⟨S_, .i32⟩
  | 99 => ⟨S1024, .i32⟩
  | 100 => ⟨S1024, .i32⟩
  | 101 => ⟨S1024, .i32⟩
  | 102 => ⟨S1024, .i32⟩
  | 103 => ⟨S1024, .i32⟩
  | 104 => ⟨S1024, .i32⟩
  | 105 => ⟨S1024, .i32⟩
  | 106 => ⟨S1024, .i32⟩
  | 107 => ⟨S_, .i32⟩
  | 108 => ⟨S1024, .i32⟩
  | 109 => ⟨S1024, .i32⟩
  | 110 => ⟨S1024, .i32⟩
  | 111 => ⟨S_, .i32⟩
  | 112 => ⟨S1024, .i32⟩
  | 113 => ⟨S1024, .i32⟩
  | 114 => ⟨S_, .i32⟩
  | 115 => ⟨S1024, .i32⟩
  | 116 => ⟨S1024, .i32⟩
  | 117 => ⟨S1024, .i32⟩
  | 118 => ⟨S1024, .i32⟩
  | 119 => ⟨S1024, .i32⟩
  | 120 => ⟨S_, .i32⟩
  | 121 => ⟨S1024, .i32⟩
  | 122 => ⟨S1024, .i32⟩
  | 123 => ⟨S_, .i32⟩
  | 124 => ⟨S1024, .i32⟩
  | 125 => ⟨S1024, .i32⟩
  | 126 => ⟨S1024, .i32⟩
  | 127 => ⟨S1024, .i32⟩
  | _ => ⟨S1024x100000, .f32⟩

abbrev hbmTy0_5 (i : Nat) : BufTy := match i % 128 with
  | 0 => ⟨S1024, .i32⟩
  | 1 => ⟨S_, .i32⟩
  | 2 => ⟨S1024, .i32⟩
  | 3 => ⟨S1024, .i32⟩
  | 4 => ⟨S_, .i32⟩
  | 5 => ⟨S1024, .i32⟩
  | 6 => ⟨S1024, .i32⟩
  | 7 => ⟨S1024, .i32⟩
  | 8 => ⟨S1024, .i32⟩
  | 9 => ⟨S1024, .i32⟩
  | 10 => ⟨S_, .i32⟩
  | 11 => ⟨S1024, .i32⟩
  | 12 => ⟨S1024, .i32⟩
  | 13 => ⟨S_, .i32⟩
  | 14 => ⟨S1024, .i32⟩
  | 15 => ⟨S1024, .i32⟩
  | 16 => ⟨S1024, .i32⟩
  | 17 => ⟨S1024, .i32⟩
  | 18 => ⟨S1024, .i32⟩
  | 19 => ⟨S1024, .i32⟩
  | 20 => ⟨S1024, .i32⟩
  | 21 => ⟨S1024, .i32⟩
  | 22 => ⟨S_, .i32⟩
  | 23 => ⟨S1024, .i32⟩
  | 24 => ⟨S1024, .i32⟩
  | 25 => ⟨S1024, .i32⟩
  | 26 => ⟨S_, .i32⟩
  | 27 => ⟨S1024, .i32⟩
  | 28 => ⟨S1024, .i32⟩
  | 29 => ⟨S_, .i32⟩
  | 30 => ⟨S1024, .i32⟩
  | 31 => ⟨S1024, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i32⟩
  | 38 => ⟨S_, .i32⟩
  | 39 => ⟨S1024, .i32⟩
  | 40 => ⟨S1024, .i32⟩
  | 41 => ⟨S1024, .i32⟩
  | 42 => ⟨S1024, .i32⟩
  | 43 => ⟨S1024, .i32⟩
  | 44 => ⟨S_, .i32⟩
  | 45 => ⟨S1024, .i32⟩
  | 46 => ⟨S1024, .i32⟩
  | 47 => ⟨S_, .i32⟩
  | 48 => ⟨S1024, .i32⟩
  | 49 => ⟨S1024, .i32⟩
  | 50 => ⟨S1024, .i32⟩
  | 51 => ⟨S1024, .i32⟩
  | 52 => ⟨S1024, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i32⟩
  | 59 => ⟨S1024, .i32⟩
  | 60 => ⟨S1024, .i32⟩
  | 61 => ⟨S1024, .i32⟩
  | 62 => ⟨S1024, .i32⟩
  | 63 => ⟨S1024, .i32⟩
  | 64 => ⟨S1024, .i32⟩
  | 65 => ⟨S_, .i32⟩
  | 66 => ⟨S1024, .i32⟩
  | 67 => ⟨S1024, .i32⟩
  | 68 => ⟨S1024, .i32⟩
  | 69 => ⟨S_, .i32⟩
  | 70 => ⟨S1024, .i32⟩
  | 71 => ⟨S1024, .i32⟩
  | 72 => ⟨S_, .i32⟩
  | 73 => ⟨S1024, .i32⟩
  | 74 => ⟨S1024, .i32⟩
  | 75 => ⟨S1024, .i32⟩
  | 76 => ⟨S1024, .i32⟩
  | 77 => ⟨S1024, .i32⟩
  | 78 => ⟨S_, .i32⟩
  | 79 => ⟨S1024, .i32⟩
  | 80 => ⟨S1024, .i32⟩
  | 81 => ⟨S_, .i32⟩
  | 82 => ⟨S1024, .i32⟩
  | 83 => ⟨S1024, .i32⟩
  | 84 => ⟨S1024, .i32⟩
  | 85 => ⟨S1024, .i32⟩
  | 86 => ⟨S1024, .i32⟩
  | 87 => ⟨S_, .i32⟩
  | 88 => ⟨S1024, .i32⟩
  | 89 => ⟨S1024, .i32⟩
  | 90 => ⟨S_, .i32⟩
  | 91 => ⟨S1024, .i32⟩
  | 92 => ⟨S1024, .i32⟩
  | 93 => ⟨S1024, .i32⟩
  | 94 => ⟨S1024, .i32⟩
  | 95 => ⟨S1024, .i32⟩
  | 96 => ⟨S_, .i32⟩
  | 97 => ⟨S1024, .i32⟩
  | 98 => ⟨S1024, .i32⟩
  | 99 => ⟨S_, .i32⟩
  | 100 => ⟨S1024, .i32⟩
  | 101 => ⟨S1024, .i32⟩
  | 102 => ⟨S1024, .i32⟩
  | 103 => ⟨S1024, .i32⟩
  | 104 => ⟨S1024, .i32⟩
  | 105 => ⟨S1024, .i32⟩
  | 106 => ⟨S1024, .i32⟩
  | 107 => ⟨S1024, .i32⟩
  | 108 => ⟨S_, .i32⟩
  | 109 => ⟨S1024, .i32⟩
  | 110 => ⟨S1024, .i32⟩
  | 111 => ⟨S1024, .i32⟩
  | 112 => ⟨S_, .i32⟩
  | 113 => ⟨S1024, .i32⟩
  | 114 => ⟨S1024, .i32⟩
  | 115 => ⟨S_, .i32⟩
  | 116 => ⟨S1024, .i32⟩
  | 117 => ⟨S1024, .i32⟩
  | 118 => ⟨S1024, .i32⟩
  | 119 => ⟨S1024, .i32⟩
  | 120 => ⟨S1024, .i32⟩
  | 121 => ⟨S_, .i32⟩
  | 122 => ⟨S1024, .i32⟩
  | 123 => ⟨S1024, .i32⟩
  | 124 => ⟨S_, .i32⟩
  | 125 => ⟨S1024, .i32⟩
  | 126 => ⟨S1024, .i32⟩
  | 127 => ⟨S1024, .i32⟩
  | _ => ⟨S1024x100000, .f32⟩

abbrev hbmTy0_6 (i : Nat) : BufTy := match i % 128 with
  | 0 => ⟨S1024, .i32⟩
  | 1 => ⟨S1024, .i32⟩
  | 2 => ⟨S_, .i32⟩
  | 3 => ⟨S1024, .i32⟩
  | 4 => ⟨S1024, .i32⟩
  | 5 => ⟨S_, .i32⟩
  | 6 => ⟨S1024, .i32⟩
  | 7 => ⟨S1024, .i32⟩
  | 8 => ⟨S1024, .i32⟩
  | 9 => ⟨S1024, .i32⟩
  | 10 => ⟨S1024, .i32⟩
  | 11 => ⟨S_, .i32⟩
  | 12 => ⟨S1024, .i32⟩
  | 13 => ⟨S1024, .i32⟩
  | 14 => ⟨S_, .i32⟩
  | 15 => ⟨S1024, .i32⟩
  | 16 => ⟨S1024, .i32⟩
  | 17 => ⟨S1024, .i32⟩
  | 18 => ⟨S1024, .i32⟩
  | 19 => ⟨S1024, .i32⟩
  | 20 => ⟨S1024, .i32⟩
  | 21 => ⟨S1024, .i32⟩
  | 22 => ⟨S1024, .i32⟩
  | 23 => ⟨S_, .i32⟩
  | 24 => ⟨S1024, .i32⟩
  | 25 => ⟨S1024, .i32⟩
  | 26 => ⟨S1024, .i32⟩
  | 27 => ⟨S_, .i32⟩
  | 28 => ⟨S1024, .i32⟩
  | 29 => ⟨S1024, .i32⟩
  | 30 => ⟨S_, .i32⟩
  | 31 => ⟨S1024, .i32⟩
  | 32 => ⟨S1024, .i32⟩
  | 33 => ⟨S1024, .f32⟩
  | 34 => ⟨S_, .f32⟩
  | 35 => ⟨S1024, .f32⟩
  | 36 => ⟨S1024, .f32⟩
  | 37 => ⟨S1, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .i1⟩
  | 45 => ⟨S1024, .f32⟩
  | _ => ⟨S1024x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024x100000, .f32⟩

abbrev bufTy : (tb : Table) → Fin (tcTables nBuf tb) → BufTy
  | .hbm, ⟨i, _⟩ => hbmTy i
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c : Ref sig .tc := ⟨.hbm, 19, rfl⟩
abbrev main_call0_v5 : Ref sig .tc := ⟨.hbm, 20, rfl⟩
abbrev main_call0_v6 : Ref sig .tc := ⟨.hbm, 21, rfl⟩
abbrev main_call0_c_0 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_call0_v0 : Ref sig .tc := ⟨.hbm, 27, rfl⟩
abbrev main_call0_call0_c : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_c_0 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c_1 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_c_2 : Ref sig .tc := ⟨.hbm, 44, rfl⟩
abbrev main_call0_call0_v14 : Ref sig .tc := ⟨.hbm, 45, rfl⟩
abbrev main_call0_call0_v15 : Ref sig .tc := ⟨.hbm, 46, rfl⟩
abbrev main_call0_call0_c_3 : Ref sig .tc := ⟨.hbm, 47, rfl⟩
abbrev main_call0_call0_v16 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_c_4 : Ref sig .tc := ⟨.hbm, 53, rfl⟩
abbrev main_call0_call0_v21 : Ref sig .tc := ⟨.hbm, 54, rfl⟩
abbrev main_call0_call0_v22 : Ref sig .tc := ⟨.hbm, 55, rfl⟩
abbrev main_call0_call0_c_5 : Ref sig .tc := ⟨.hbm, 56, rfl⟩
abbrev main_call0_call0_v23 : Ref sig .tc := ⟨.hbm, 57, rfl⟩
abbrev main_call0_call0_v24 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_v27 : Ref sig .tc := ⟨.hbm, 61, rfl⟩
abbrev main_call0_call0_c_6 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_c_7 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_v32 : Ref sig .tc := ⟨.hbm, 68, rfl⟩
abbrev main_call0_call0_v33 : Ref sig .tc := ⟨.hbm, 69, rfl⟩
abbrev main_call0_call0_v34 : Ref sig .tc := ⟨.hbm, 70, rfl⟩
abbrev main_call0_call0_v35 : Ref sig .tc := ⟨.hbm, 71, rfl⟩
abbrev main_call0_call0_v36 : Ref sig .tc := ⟨.hbm, 72, rfl⟩
abbrev main_call0_call0_v37 : Ref sig .tc := ⟨.hbm, 73, rfl⟩
abbrev main_call0_call0_c_8 : Ref sig .tc := ⟨.hbm, 74, rfl⟩
abbrev main_call0_call0_v38 : Ref sig .tc := ⟨.hbm, 75, rfl⟩
abbrev main_call0_call0_v39 : Ref sig .tc := ⟨.hbm, 76, rfl⟩
abbrev main_call0_call0_v40 : Ref sig .tc := ⟨.hbm, 77, rfl⟩
abbrev main_call0_call0_c_9 : Ref sig .tc := ⟨.hbm, 78, rfl⟩
abbrev main_call0_call0_v41 : Ref sig .tc := ⟨.hbm, 79, rfl⟩
abbrev main_call0_call0_v42 : Ref sig .tc := ⟨.hbm, 80, rfl⟩
abbrev main_call0_call0_c_10 : Ref sig .tc := ⟨.hbm, 81, rfl⟩
abbrev main_call0_call0_v43 : Ref sig .tc := ⟨.hbm, 82, rfl⟩
abbrev main_call0_call0_v44 : Ref sig .tc := ⟨.hbm, 83, rfl⟩
abbrev main_call0_call0_v45 : Ref sig .tc := ⟨.hbm, 84, rfl⟩
abbrev main_call0_call0_v46 : Ref sig .tc := ⟨.hbm, 85, rfl⟩
abbrev main_call0_call0_v47 : Ref sig .tc := ⟨.hbm, 86, rfl⟩
abbrev main_call0_call0_c_11 : Ref sig .tc := ⟨.hbm, 87, rfl⟩
abbrev main_call0_call0_v48 : Ref sig .tc := ⟨.hbm, 88, rfl⟩
abbrev main_call0_call0_v49 : Ref sig .tc := ⟨.hbm, 89, rfl⟩
abbrev main_call0_call0_c_12 : Ref sig .tc := ⟨.hbm, 90, rfl⟩
abbrev main_call0_call0_v50 : Ref sig .tc := ⟨.hbm, 91, rfl⟩
abbrev main_call0_call0_v51 : Ref sig .tc := ⟨.hbm, 92, rfl⟩
abbrev main_call0_call0_v52 : Ref sig .tc := ⟨.hbm, 93, rfl⟩
abbrev main_call0_call0_v53 : Ref sig .tc := ⟨.hbm, 94, rfl⟩
abbrev main_call0_call0_v54 : Ref sig .tc := ⟨.hbm, 95, rfl⟩
abbrev main_call0_call0_c_13 : Ref sig .tc := ⟨.hbm, 96, rfl⟩
abbrev main_call0_call0_v55 : Ref sig .tc := ⟨.hbm, 97, rfl⟩
abbrev main_call0_call0_v56 : Ref sig .tc := ⟨.hbm, 98, rfl⟩
abbrev main_call0_call0_c_14 : Ref sig .tc := ⟨.hbm, 99, rfl⟩
abbrev main_call0_call0_v57 : Ref sig .tc := ⟨.hbm, 100, rfl⟩
abbrev main_call0_call0_v58 : Ref sig .tc := ⟨.hbm, 101, rfl⟩
abbrev main_call0_call0_v59 : Ref sig .tc := ⟨.hbm, 102, rfl⟩
abbrev main_call0_call0_v60 : Ref sig .tc := ⟨.hbm, 103, rfl⟩
abbrev main_call0_call0_v61 : Ref sig .tc := ⟨.hbm, 104, rfl⟩
abbrev main_call0_call0_c_15 : Ref sig .tc := ⟨.hbm, 105, rfl⟩
abbrev main_call0_call0_v62 : Ref sig .tc := ⟨.hbm, 106, rfl⟩
abbrev main_call0_call0_v63 : Ref sig .tc := ⟨.hbm, 107, rfl⟩
abbrev main_call0_call0_c_16 : Ref sig .tc := ⟨.hbm, 108, rfl⟩
abbrev main_call0_call0_v64 : Ref sig .tc := ⟨.hbm, 109, rfl⟩
abbrev main_call0_call0_v65 : Ref sig .tc := ⟨.hbm, 110, rfl⟩
abbrev main_call0_call0_v66 : Ref sig .tc := ⟨.hbm, 111, rfl⟩
abbrev main_call0_call0_v67 : Ref sig .tc := ⟨.hbm, 112, rfl⟩
abbrev main_call0_call0_v68 : Ref sig .tc := ⟨.hbm, 113, rfl⟩
abbrev main_call0_call0_v69 : Ref sig .tc := ⟨.hbm, 114, rfl⟩
abbrev main_call0_call0_v70 : Ref sig .tc := ⟨.hbm, 115, rfl⟩
abbrev main_call0_call0_v71 : Ref sig .tc := ⟨.hbm, 116, rfl⟩
abbrev main_call0_call0_c_17 : Ref sig .tc := ⟨.hbm, 117, rfl⟩
abbrev main_call0_call0_v72 : Ref sig .tc := ⟨.hbm, 118, rfl⟩
abbrev main_call0_call0_v73 : Ref sig .tc := ⟨.hbm, 119, rfl⟩
abbrev main_call0_call0_v74 : Ref sig .tc := ⟨.hbm, 120, rfl⟩
abbrev main_call0_call0_c_18 : Ref sig .tc := ⟨.hbm, 121, rfl⟩
abbrev main_call0_call0_v75 : Ref sig .tc := ⟨.hbm, 122, rfl⟩
abbrev main_call0_call0_v76 : Ref sig .tc := ⟨.hbm, 123, rfl⟩
abbrev main_call0_call0_c_19 : Ref sig .tc := ⟨.hbm, 124, rfl⟩
abbrev main_call0_call0_v77 : Ref sig .tc := ⟨.hbm, 125, rfl⟩
abbrev main_call0_call0_v78 : Ref sig .tc := ⟨.hbm, 126, rfl⟩
abbrev main_call0_call0_v79 : Ref sig .tc := ⟨.hbm, 127, rfl⟩
abbrev main_call0_call0_v80 : Ref sig .tc := ⟨.hbm, 128, rfl⟩
abbrev main_call0_call0_v81 : Ref sig .tc := ⟨.hbm, 129, rfl⟩
abbrev main_call0_call0_c_20 : Ref sig .tc := ⟨.hbm, 130, rfl⟩
abbrev main_call0_call0_v82 : Ref sig .tc := ⟨.hbm, 131, rfl⟩
abbrev main_call0_call0_v83 : Ref sig .tc := ⟨.hbm, 132, rfl⟩
abbrev main_call0_call0_c_21 : Ref sig .tc := ⟨.hbm, 133, rfl⟩
abbrev main_call0_call0_v84 : Ref sig .tc := ⟨.hbm, 134, rfl⟩
abbrev main_call0_call0_v85 : Ref sig .tc := ⟨.hbm, 135, rfl⟩
abbrev main_call0_call0_v86 : Ref sig .tc := ⟨.hbm, 136, rfl⟩
abbrev main_call0_call0_v87 : Ref sig .tc := ⟨.hbm, 137, rfl⟩
abbrev main_call0_call0_v88 : Ref sig .tc := ⟨.hbm, 138, rfl⟩
abbrev main_call0_call0_c_22 : Ref sig .tc := ⟨.hbm, 139, rfl⟩
abbrev main_call0_call0_v89 : Ref sig .tc := ⟨.hbm, 140, rfl⟩
abbrev main_call0_call0_v90 : Ref sig .tc := ⟨.hbm, 141, rfl⟩
abbrev main_call0_call0_c_23 : Ref sig .tc := ⟨.hbm, 142, rfl⟩
abbrev main_call0_call0_v91 : Ref sig .tc := ⟨.hbm, 143, rfl⟩
abbrev main_call0_call0_v92 : Ref sig .tc := ⟨.hbm, 144, rfl⟩
abbrev main_call0_call0_v93 : Ref sig .tc := ⟨.hbm, 145, rfl⟩
abbrev main_call0_call0_v94 : Ref sig .tc := ⟨.hbm, 146, rfl⟩
abbrev main_call0_call0_v95 : Ref sig .tc := ⟨.hbm, 147, rfl⟩
abbrev main_call0_call0_c_24 : Ref sig .tc := ⟨.hbm, 148, rfl⟩
abbrev main_call0_call0_v96 : Ref sig .tc := ⟨.hbm, 149, rfl⟩
abbrev main_call0_call0_v97 : Ref sig .tc := ⟨.hbm, 150, rfl⟩
abbrev main_call0_call0_c_25 : Ref sig .tc := ⟨.hbm, 151, rfl⟩
abbrev main_call0_call0_v98 : Ref sig .tc := ⟨.hbm, 152, rfl⟩
abbrev main_call0_call0_v99 : Ref sig .tc := ⟨.hbm, 153, rfl⟩
abbrev main_call0_call0_v100 : Ref sig .tc := ⟨.hbm, 154, rfl⟩
abbrev main_call0_call0_v101 : Ref sig .tc := ⟨.hbm, 155, rfl⟩
abbrev main_call0_call0_v102 : Ref sig .tc := ⟨.hbm, 156, rfl⟩
abbrev main_call0_call0_v103 : Ref sig .tc := ⟨.hbm, 157, rfl⟩
abbrev main_call0_call0_v104 : Ref sig .tc := ⟨.hbm, 158, rfl⟩
abbrev main_call0_call0_v105 : Ref sig .tc := ⟨.hbm, 159, rfl⟩
abbrev main_call0_call0_c_26 : Ref sig .tc := ⟨.hbm, 160, rfl⟩
abbrev main_call0_call0_v106 : Ref sig .tc := ⟨.hbm, 161, rfl⟩
abbrev main_call0_call0_v107 : Ref sig .tc := ⟨.hbm, 162, rfl⟩
abbrev main_call0_call0_v108 : Ref sig .tc := ⟨.hbm, 163, rfl⟩
abbrev main_call0_call0_c_27 : Ref sig .tc := ⟨.hbm, 164, rfl⟩
abbrev main_call0_call0_v109 : Ref sig .tc := ⟨.hbm, 165, rfl⟩
abbrev main_call0_call0_v110 : Ref sig .tc := ⟨.hbm, 166, rfl⟩
abbrev main_call0_call0_c_28 : Ref sig .tc := ⟨.hbm, 167, rfl⟩
abbrev main_call0_call0_v111 : Ref sig .tc := ⟨.hbm, 168, rfl⟩
abbrev main_call0_call0_v112 : Ref sig .tc := ⟨.hbm, 169, rfl⟩
abbrev main_call0_call0_v113 : Ref sig .tc := ⟨.hbm, 170, rfl⟩
abbrev main_call0_call0_v114 : Ref sig .tc := ⟨.hbm, 171, rfl⟩
abbrev main_call0_call0_v115 : Ref sig .tc := ⟨.hbm, 172, rfl⟩
abbrev main_call0_call0_c_29 : Ref sig .tc := ⟨.hbm, 173, rfl⟩
abbrev main_call0_call0_v116 : Ref sig .tc := ⟨.hbm, 174, rfl⟩
abbrev main_call0_call0_v117 : Ref sig .tc := ⟨.hbm, 175, rfl⟩
abbrev main_call0_call0_c_30 : Ref sig .tc := ⟨.hbm, 176, rfl⟩
abbrev main_call0_call0_v118 : Ref sig .tc := ⟨.hbm, 177, rfl⟩
abbrev main_call0_call0_v119 : Ref sig .tc := ⟨.hbm, 178, rfl⟩
abbrev main_call0_call0_v120 : Ref sig .tc := ⟨.hbm, 179, rfl⟩
abbrev main_call0_call0_v121 : Ref sig .tc := ⟨.hbm, 180, rfl⟩
abbrev main_call0_call0_v122 : Ref sig .tc := ⟨.hbm, 181, rfl⟩
abbrev main_call0_call0_c_31 : Ref sig .tc := ⟨.hbm, 182, rfl⟩
abbrev main_call0_call0_v123 : Ref sig .tc := ⟨.hbm, 183, rfl⟩
abbrev main_call0_call0_v124 : Ref sig .tc := ⟨.hbm, 184, rfl⟩
abbrev main_call0_call0_c_32 : Ref sig .tc := ⟨.hbm, 185, rfl⟩
abbrev main_call0_call0_v125 : Ref sig .tc := ⟨.hbm, 186, rfl⟩
abbrev main_call0_call0_v126 : Ref sig .tc := ⟨.hbm, 187, rfl⟩
abbrev main_call0_call0_v127 : Ref sig .tc := ⟨.hbm, 188, rfl⟩
abbrev main_call0_call0_v128 : Ref sig .tc := ⟨.hbm, 189, rfl⟩
abbrev main_call0_call0_v129 : Ref sig .tc := ⟨.hbm, 190, rfl⟩
abbrev main_call0_call0_c_33 : Ref sig .tc := ⟨.hbm, 191, rfl⟩
abbrev main_call0_call0_v130 : Ref sig .tc := ⟨.hbm, 192, rfl⟩
abbrev main_call0_call0_v131 : Ref sig .tc := ⟨.hbm, 193, rfl⟩
abbrev main_call0_call0_c_34 : Ref sig .tc := ⟨.hbm, 194, rfl⟩
abbrev main_call0_call0_v132 : Ref sig .tc := ⟨.hbm, 195, rfl⟩
abbrev main_call0_call0_v133 : Ref sig .tc := ⟨.hbm, 196, rfl⟩
abbrev main_call0_call0_v134 : Ref sig .tc := ⟨.hbm, 197, rfl⟩
abbrev main_call0_call0_v135 : Ref sig .tc := ⟨.hbm, 198, rfl⟩
abbrev main_call0_call0_v136 : Ref sig .tc := ⟨.hbm, 199, rfl⟩
abbrev main_call0_call0_v137 : Ref sig .tc := ⟨.hbm, 200, rfl⟩
abbrev main_call0_call0_v138 : Ref sig .tc := ⟨.hbm, 201, rfl⟩
abbrev main_call0_call0_v139 : Ref sig .tc := ⟨.hbm, 202, rfl⟩
abbrev main_call0_call0_c_35 : Ref sig .tc := ⟨.hbm, 203, rfl⟩
abbrev main_call0_call0_v140 : Ref sig .tc := ⟨.hbm, 204, rfl⟩
abbrev main_call0_call0_v141 : Ref sig .tc := ⟨.hbm, 205, rfl⟩
abbrev main_call0_call0_v142 : Ref sig .tc := ⟨.hbm, 206, rfl⟩
abbrev main_call0_call0_c_36 : Ref sig .tc := ⟨.hbm, 207, rfl⟩
abbrev main_call0_call0_v143 : Ref sig .tc := ⟨.hbm, 208, rfl⟩
abbrev main_call0_call0_v144 : Ref sig .tc := ⟨.hbm, 209, rfl⟩
abbrev main_call0_call0_c_37 : Ref sig .tc := ⟨.hbm, 210, rfl⟩
abbrev main_call0_call0_v145 : Ref sig .tc := ⟨.hbm, 211, rfl⟩
abbrev main_call0_call0_v146 : Ref sig .tc := ⟨.hbm, 212, rfl⟩
abbrev main_call0_call0_v147 : Ref sig .tc := ⟨.hbm, 213, rfl⟩
abbrev main_call0_call0_v148 : Ref sig .tc := ⟨.hbm, 214, rfl⟩
abbrev main_call0_call0_v149 : Ref sig .tc := ⟨.hbm, 215, rfl⟩
abbrev main_call0_call0_c_38 : Ref sig .tc := ⟨.hbm, 216, rfl⟩
abbrev main_call0_call0_v150 : Ref sig .tc := ⟨.hbm, 217, rfl⟩
abbrev main_call0_call0_v151 : Ref sig .tc := ⟨.hbm, 218, rfl⟩
abbrev main_call0_call0_c_39 : Ref sig .tc := ⟨.hbm, 219, rfl⟩
abbrev main_call0_call0_v152 : Ref sig .tc := ⟨.hbm, 220, rfl⟩
abbrev main_call0_call0_v153 : Ref sig .tc := ⟨.hbm, 221, rfl⟩
abbrev main_call0_call0_v154 : Ref sig .tc := ⟨.hbm, 222, rfl⟩
abbrev main_call0_call0_v155 : Ref sig .tc := ⟨.hbm, 223, rfl⟩
abbrev main_call0_call0_v156 : Ref sig .tc := ⟨.hbm, 224, rfl⟩
abbrev main_call0_call0_c_40 : Ref sig .tc := ⟨.hbm, 225, rfl⟩
abbrev main_call0_call0_v157 : Ref sig .tc := ⟨.hbm, 226, rfl⟩
abbrev main_call0_call0_v158 : Ref sig .tc := ⟨.hbm, 227, rfl⟩
abbrev main_call0_call0_c_41 : Ref sig .tc := ⟨.hbm, 228, rfl⟩
abbrev main_call0_call0_v159 : Ref sig .tc := ⟨.hbm, 229, rfl⟩
abbrev main_call0_call0_v160 : Ref sig .tc := ⟨.hbm, 230, rfl⟩
abbrev main_call0_call0_v161 : Ref sig .tc := ⟨.hbm, 231, rfl⟩
abbrev main_call0_call0_v162 : Ref sig .tc := ⟨.hbm, 232, rfl⟩
abbrev main_call0_call0_v163 : Ref sig .tc := ⟨.hbm, 233, rfl⟩
abbrev main_call0_call0_c_42 : Ref sig .tc := ⟨.hbm, 234, rfl⟩
abbrev main_call0_call0_v164 : Ref sig .tc := ⟨.hbm, 235, rfl⟩
abbrev main_call0_call0_v165 : Ref sig .tc := ⟨.hbm, 236, rfl⟩
abbrev main_call0_call0_c_43 : Ref sig .tc := ⟨.hbm, 237, rfl⟩
abbrev main_call0_call0_v166 : Ref sig .tc := ⟨.hbm, 238, rfl⟩
abbrev main_call0_call0_v167 : Ref sig .tc := ⟨.hbm, 239, rfl⟩
abbrev main_call0_call0_v168 : Ref sig .tc := ⟨.hbm, 240, rfl⟩
abbrev main_call0_call0_v169 : Ref sig .tc := ⟨.hbm, 241, rfl⟩
abbrev main_call0_call0_v170 : Ref sig .tc := ⟨.hbm, 242, rfl⟩
abbrev main_call0_v11_0 : Ref sig .tc := ⟨.hbm, 243, rfl⟩
abbrev main_call0_call0_v172 : Ref sig .tc := ⟨.hbm, 244, rfl⟩
abbrev main_call0_call0_v173 : Ref sig .tc := ⟨.hbm, 245, rfl⟩
abbrev main_call0_call0_c_44 : Ref sig .tc := ⟨.hbm, 246, rfl⟩
abbrev main_call0_call0_v174 : Ref sig .tc := ⟨.hbm, 247, rfl⟩
abbrev main_call0_v11_1 : Ref sig .tc := ⟨.hbm, 248, rfl⟩
abbrev main_call0_v12 : Ref sig .tc := ⟨.hbm, 249, rfl⟩
abbrev main_call0_v13 : Ref sig .tc := ⟨.hbm, 250, rfl⟩
abbrev main_v7 : Ref sig .tc := ⟨.hbm, 251, rfl⟩
abbrev main_v8 : Ref sig .tc := ⟨.hbm, 252, rfl⟩
abbrev main_v9 : Ref sig .tc := ⟨.hbm, 253, rfl⟩
abbrev main_v10 : Ref sig .tc := ⟨.hbm, 254, rfl⟩
abbrev main_v11 : Ref sig .tc := ⟨.hbm, 255, rfl⟩
abbrev main_v12 : Ref sig .tc := ⟨.hbm, 256, rfl⟩
abbrev main_v13 : Ref sig .tc := ⟨.hbm, 257, rfl⟩
abbrev main_cst : Ref sig .tc := ⟨.hbm, 258, rfl⟩
abbrev main_cst_2 : Ref sig .tc := ⟨.hbm, 259, rfl⟩
abbrev main_call1_v0 : Ref sig .tc := ⟨.hbm, 260, rfl⟩
abbrev main_call1_v1 : Ref sig .tc := ⟨.hbm, 261, rfl⟩
abbrev main_call1_v2 : Ref sig .tc := ⟨.hbm, 262, rfl⟩
abbrev main_call1_v3 : Ref sig .tc := ⟨.hbm, 263, rfl⟩
abbrev main_call1_v4 : Ref sig .tc := ⟨.hbm, 264, rfl⟩
abbrev main_call1_v5 : Ref sig .tc := ⟨.hbm, 265, rfl⟩
abbrev main_call1_v6 : Ref sig .tc := ⟨.hbm, 266, rfl⟩
abbrev main_call1_v7 : Ref sig .tc := ⟨.hbm, 267, rfl⟩
abbrev main_call1_v8 : Ref sig .tc := ⟨.hbm, 268, rfl⟩
abbrev main_call1_v9 : Ref sig .tc := ⟨.hbm, 269, rfl⟩
abbrev main_call1_v10 : Ref sig .tc := ⟨.hbm, 270, rfl⟩
abbrev main_call1_c : Ref sig .tc := ⟨.hbm, 271, rfl⟩
abbrev main_call1_v11 : Ref sig .tc := ⟨.hbm, 272, rfl⟩
abbrev main_call1_v12 : Ref sig .tc := ⟨.hbm, 273, rfl⟩
abbrev main_call1_c_0 : Ref sig .tc := ⟨.hbm, 274, rfl⟩
abbrev main_call1_v13 : Ref sig .tc := ⟨.hbm, 275, rfl⟩
abbrev main_call1_v14 : Ref sig .tc := ⟨.hbm, 276, rfl⟩
abbrev main_call1_c_1 : Ref sig .tc := ⟨.hbm, 277, rfl⟩
abbrev main_call1_v15 : Ref sig .tc := ⟨.hbm, 278, rfl⟩
abbrev main_call1_v16 : Ref sig .tc := ⟨.hbm, 279, rfl⟩
abbrev main_call1_v17 : Ref sig .tc := ⟨.hbm, 280, rfl⟩
abbrev main_call1_v18 : Ref sig .tc := ⟨.hbm, 281, rfl⟩
abbrev main_call1_c_2 : Ref sig .tc := ⟨.hbm, 282, rfl⟩
abbrev main_call1_v19 : Ref sig .tc := ⟨.hbm, 283, rfl⟩
abbrev main_call1_v20 : Ref sig .tc := ⟨.hbm, 284, rfl⟩
abbrev main_call1_v21 : Ref sig .tc := ⟨.hbm, 285, rfl⟩
abbrev main_call1_v22 : Ref sig .tc := ⟨.hbm, 286, rfl⟩
abbrev main_call1_call0_v0 : Ref sig .tc := ⟨.hbm, 287, rfl⟩
abbrev main_call1_call0_c : Ref sig .tc := ⟨.hbm, 288, rfl⟩
abbrev main_call1_call0_v1 : Ref sig .tc := ⟨.hbm, 289, rfl⟩
abbrev main_call1_call0_v2 : Ref sig .tc := ⟨.hbm, 290, rfl⟩
abbrev main_call1_call0_v3 : Ref sig .tc := ⟨.hbm, 291, rfl⟩
abbrev main_call1_call0_v4 : Ref sig .tc := ⟨.hbm, 292, rfl⟩
abbrev main_call1_call0_v5 : Ref sig .tc := ⟨.hbm, 293, rfl⟩
abbrev main_call1_call0_v6 : Ref sig .tc := ⟨.hbm, 294, rfl⟩
abbrev main_call1_call0_c_0 : Ref sig .tc := ⟨.hbm, 295, rfl⟩
abbrev main_call1_call0_v7 : Ref sig .tc := ⟨.hbm, 296, rfl⟩
abbrev main_call1_call0_v8 : Ref sig .tc := ⟨.hbm, 297, rfl⟩
abbrev main_call1_call0_c_1 : Ref sig .tc := ⟨.hbm, 298, rfl⟩
abbrev main_call1_call0_v9 : Ref sig .tc := ⟨.hbm, 299, rfl⟩
abbrev main_call1_call0_v10 : Ref sig .tc := ⟨.hbm, 300, rfl⟩
abbrev main_call1_call0_v11 : Ref sig .tc := ⟨.hbm, 301, rfl⟩
abbrev main_call1_call0_v12 : Ref sig .tc := ⟨.hbm, 302, rfl⟩
abbrev main_call1_call0_v13 : Ref sig .tc := ⟨.hbm, 303, rfl⟩
abbrev main_call1_call0_c_2 : Ref sig .tc := ⟨.hbm, 304, rfl⟩
abbrev main_call1_call0_v14 : Ref sig .tc := ⟨.hbm, 305, rfl⟩
abbrev main_call1_call0_v15 : Ref sig .tc := ⟨.hbm, 306, rfl⟩
abbrev main_call1_call0_c_3 : Ref sig .tc := ⟨.hbm, 307, rfl⟩
abbrev main_call1_call0_v16 : Ref sig .tc := ⟨.hbm, 308, rfl⟩
abbrev main_call1_call0_v17 : Ref sig .tc := ⟨.hbm, 309, rfl⟩
abbrev main_call1_call0_v18 : Ref sig .tc := ⟨.hbm, 310, rfl⟩
abbrev main_call1_call0_v19 : Ref sig .tc := ⟨.hbm, 311, rfl⟩
abbrev main_call1_call0_v20 : Ref sig .tc := ⟨.hbm, 312, rfl⟩
abbrev main_call1_call0_c_4 : Ref sig .tc := ⟨.hbm, 313, rfl⟩
abbrev main_call1_call0_v21 : Ref sig .tc := ⟨.hbm, 314, rfl⟩
abbrev main_call1_call0_v22 : Ref sig .tc := ⟨.hbm, 315, rfl⟩
abbrev main_call1_call0_c_5 : Ref sig .tc := ⟨.hbm, 316, rfl⟩
abbrev main_call1_call0_v23 : Ref sig .tc := ⟨.hbm, 317, rfl⟩
abbrev main_call1_call0_v24 : Ref sig .tc := ⟨.hbm, 318, rfl⟩
abbrev main_call1_call0_v25 : Ref sig .tc := ⟨.hbm, 319, rfl⟩
abbrev main_call1_call0_v26 : Ref sig .tc := ⟨.hbm, 320, rfl⟩
abbrev main_call1_call0_v27 : Ref sig .tc := ⟨.hbm, 321, rfl⟩
abbrev main_call1_call0_c_6 : Ref sig .tc := ⟨.hbm, 322, rfl⟩
abbrev main_call1_call0_v28 : Ref sig .tc := ⟨.hbm, 323, rfl⟩
abbrev main_call1_call0_v29 : Ref sig .tc := ⟨.hbm, 324, rfl⟩
abbrev main_call1_call0_c_7 : Ref sig .tc := ⟨.hbm, 325, rfl⟩
abbrev main_call1_call0_v30 : Ref sig .tc := ⟨.hbm, 326, rfl⟩
abbrev main_call1_call0_v31 : Ref sig .tc := ⟨.hbm, 327, rfl⟩
abbrev main_call1_call0_v32 : Ref sig .tc := ⟨.hbm, 328, rfl⟩
abbrev main_call1_call0_v33 : Ref sig .tc := ⟨.hbm, 329, rfl⟩
abbrev main_call1_call0_v34 : Ref sig .tc := ⟨.hbm, 330, rfl⟩
abbrev main_call1_call0_v35 : Ref sig .tc := ⟨.hbm, 331, rfl⟩
abbrev main_call1_call0_v36 : Ref sig .tc := ⟨.hbm, 332, rfl⟩
abbrev main_call1_call0_v37 : Ref sig .tc := ⟨.hbm, 333, rfl⟩
abbrev main_call1_call0_c_8 : Ref sig .tc := ⟨.hbm, 334, rfl⟩
abbrev main_call1_call0_v38 : Ref sig .tc := ⟨.hbm, 335, rfl⟩
abbrev main_call1_call0_v39 : Ref sig .tc := ⟨.hbm, 336, rfl⟩
abbrev main_call1_call0_v40 : Ref sig .tc := ⟨.hbm, 337, rfl⟩
abbrev main_call1_call0_c_9 : Ref sig .tc := ⟨.hbm, 338, rfl⟩
abbrev main_call1_call0_v41 : Ref sig .tc := ⟨.hbm, 339, rfl⟩
abbrev main_call1_call0_v42 : Ref sig .tc := ⟨.hbm, 340, rfl⟩
abbrev main_call1_call0_c_10 : Ref sig .tc := ⟨.hbm, 341, rfl⟩
abbrev main_call1_call0_v43 : Ref sig .tc := ⟨.hbm, 342, rfl⟩
abbrev main_call1_call0_v44 : Ref sig .tc := ⟨.hbm, 343, rfl⟩
abbrev main_call1_call0_v45 : Ref sig .tc := ⟨.hbm, 344, rfl⟩
abbrev main_call1_call0_v46 : Ref sig .tc := ⟨.hbm, 345, rfl⟩
abbrev main_call1_call0_v47 : Ref sig .tc := ⟨.hbm, 346, rfl⟩
abbrev main_call1_call0_c_11 : Ref sig .tc := ⟨.hbm, 347, rfl⟩
abbrev main_call1_call0_v48 : Ref sig .tc := ⟨.hbm, 348, rfl⟩
abbrev main_call1_call0_v49 : Ref sig .tc := ⟨.hbm, 349, rfl⟩
abbrev main_call1_call0_c_12 : Ref sig .tc := ⟨.hbm, 350, rfl⟩
abbrev main_call1_call0_v50 : Ref sig .tc := ⟨.hbm, 351, rfl⟩
abbrev main_call1_call0_v51 : Ref sig .tc := ⟨.hbm, 352, rfl⟩
abbrev main_call1_call0_v52 : Ref sig .tc := ⟨.hbm, 353, rfl⟩
abbrev main_call1_call0_v53 : Ref sig .tc := ⟨.hbm, 354, rfl⟩
abbrev main_call1_call0_v54 : Ref sig .tc := ⟨.hbm, 355, rfl⟩
abbrev main_call1_call0_c_13 : Ref sig .tc := ⟨.hbm, 356, rfl⟩
abbrev main_call1_call0_v55 : Ref sig .tc := ⟨.hbm, 357, rfl⟩
abbrev main_call1_call0_v56 : Ref sig .tc := ⟨.hbm, 358, rfl⟩
abbrev main_call1_call0_c_14 : Ref sig .tc := ⟨.hbm, 359, rfl⟩
abbrev main_call1_call0_v57 : Ref sig .tc := ⟨.hbm, 360, rfl⟩
abbrev main_call1_call0_v58 : Ref sig .tc := ⟨.hbm, 361, rfl⟩
abbrev main_call1_call0_v59 : Ref sig .tc := ⟨.hbm, 362, rfl⟩
abbrev main_call1_call0_v60 : Ref sig .tc := ⟨.hbm, 363, rfl⟩
abbrev main_call1_call0_v61 : Ref sig .tc := ⟨.hbm, 364, rfl⟩
abbrev main_call1_call0_c_15 : Ref sig .tc := ⟨.hbm, 365, rfl⟩
abbrev main_call1_call0_v62 : Ref sig .tc := ⟨.hbm, 366, rfl⟩
abbrev main_call1_call0_v63 : Ref sig .tc := ⟨.hbm, 367, rfl⟩
abbrev main_call1_call0_c_16 : Ref sig .tc := ⟨.hbm, 368, rfl⟩
abbrev main_call1_call0_v64 : Ref sig .tc := ⟨.hbm, 369, rfl⟩
abbrev main_call1_call0_v65 : Ref sig .tc := ⟨.hbm, 370, rfl⟩
abbrev main_call1_call0_v66 : Ref sig .tc := ⟨.hbm, 371, rfl⟩
abbrev main_call1_call0_v67 : Ref sig .tc := ⟨.hbm, 372, rfl⟩
abbrev main_call1_call0_v68 : Ref sig .tc := ⟨.hbm, 373, rfl⟩
abbrev main_call1_call0_v69 : Ref sig .tc := ⟨.hbm, 374, rfl⟩
abbrev main_call1_call0_v70 : Ref sig .tc := ⟨.hbm, 375, rfl⟩
abbrev main_call1_call0_v71 : Ref sig .tc := ⟨.hbm, 376, rfl⟩
abbrev main_call1_call0_c_17 : Ref sig .tc := ⟨.hbm, 377, rfl⟩
abbrev main_call1_call0_v72 : Ref sig .tc := ⟨.hbm, 378, rfl⟩
abbrev main_call1_call0_v73 : Ref sig .tc := ⟨.hbm, 379, rfl⟩
abbrev main_call1_call0_v74 : Ref sig .tc := ⟨.hbm, 380, rfl⟩
abbrev main_call1_call0_c_18 : Ref sig .tc := ⟨.hbm, 381, rfl⟩
abbrev main_call1_call0_v75 : Ref sig .tc := ⟨.hbm, 382, rfl⟩
abbrev main_call1_call0_v76 : Ref sig .tc := ⟨.hbm, 383, rfl⟩
abbrev main_call1_call0_c_19 : Ref sig .tc := ⟨.hbm, 384, rfl⟩
abbrev main_call1_call0_v77 : Ref sig .tc := ⟨.hbm, 385, rfl⟩
abbrev main_call1_call0_v78 : Ref sig .tc := ⟨.hbm, 386, rfl⟩
abbrev main_call1_call0_v79 : Ref sig .tc := ⟨.hbm, 387, rfl⟩
abbrev main_call1_call0_v80 : Ref sig .tc := ⟨.hbm, 388, rfl⟩
abbrev main_call1_call0_v81 : Ref sig .tc := ⟨.hbm, 389, rfl⟩
abbrev main_call1_call0_c_20 : Ref sig .tc := ⟨.hbm, 390, rfl⟩
abbrev main_call1_call0_v82 : Ref sig .tc := ⟨.hbm, 391, rfl⟩
abbrev main_call1_call0_v83 : Ref sig .tc := ⟨.hbm, 392, rfl⟩
abbrev main_call1_call0_c_21 : Ref sig .tc := ⟨.hbm, 393, rfl⟩
abbrev main_call1_call0_v84 : Ref sig .tc := ⟨.hbm, 394, rfl⟩
abbrev main_call1_call0_v85 : Ref sig .tc := ⟨.hbm, 395, rfl⟩
abbrev main_call1_call0_v86 : Ref sig .tc := ⟨.hbm, 396, rfl⟩
abbrev main_call1_call0_v87 : Ref sig .tc := ⟨.hbm, 397, rfl⟩
abbrev main_call1_call0_v88 : Ref sig .tc := ⟨.hbm, 398, rfl⟩
abbrev main_call1_call0_c_22 : Ref sig .tc := ⟨.hbm, 399, rfl⟩
abbrev main_call1_call0_v89 : Ref sig .tc := ⟨.hbm, 400, rfl⟩
abbrev main_call1_call0_v90 : Ref sig .tc := ⟨.hbm, 401, rfl⟩
abbrev main_call1_call0_c_23 : Ref sig .tc := ⟨.hbm, 402, rfl⟩
abbrev main_call1_call0_v91 : Ref sig .tc := ⟨.hbm, 403, rfl⟩
abbrev main_call1_call0_v92 : Ref sig .tc := ⟨.hbm, 404, rfl⟩
abbrev main_call1_call0_v93 : Ref sig .tc := ⟨.hbm, 405, rfl⟩
abbrev main_call1_call0_v94 : Ref sig .tc := ⟨.hbm, 406, rfl⟩
abbrev main_call1_call0_v95 : Ref sig .tc := ⟨.hbm, 407, rfl⟩
abbrev main_call1_call0_c_24 : Ref sig .tc := ⟨.hbm, 408, rfl⟩
abbrev main_call1_call0_v96 : Ref sig .tc := ⟨.hbm, 409, rfl⟩
abbrev main_call1_call0_v97 : Ref sig .tc := ⟨.hbm, 410, rfl⟩
abbrev main_call1_call0_c_25 : Ref sig .tc := ⟨.hbm, 411, rfl⟩
abbrev main_call1_call0_v98 : Ref sig .tc := ⟨.hbm, 412, rfl⟩
abbrev main_call1_call0_v99 : Ref sig .tc := ⟨.hbm, 413, rfl⟩
abbrev main_call1_call0_v100 : Ref sig .tc := ⟨.hbm, 414, rfl⟩
abbrev main_call1_call0_v101 : Ref sig .tc := ⟨.hbm, 415, rfl⟩
abbrev main_call1_call0_v102 : Ref sig .tc := ⟨.hbm, 416, rfl⟩
abbrev main_call1_call0_v103 : Ref sig .tc := ⟨.hbm, 417, rfl⟩
abbrev main_call1_call0_v104 : Ref sig .tc := ⟨.hbm, 418, rfl⟩
abbrev main_call1_call0_v105 : Ref sig .tc := ⟨.hbm, 419, rfl⟩
abbrev main_call1_call0_c_26 : Ref sig .tc := ⟨.hbm, 420, rfl⟩
abbrev main_call1_call0_v106 : Ref sig .tc := ⟨.hbm, 421, rfl⟩
abbrev main_call1_call0_v107 : Ref sig .tc := ⟨.hbm, 422, rfl⟩
abbrev main_call1_call0_v108 : Ref sig .tc := ⟨.hbm, 423, rfl⟩
abbrev main_call1_call0_c_27 : Ref sig .tc := ⟨.hbm, 424, rfl⟩
abbrev main_call1_call0_v109 : Ref sig .tc := ⟨.hbm, 425, rfl⟩
abbrev main_call1_call0_v110 : Ref sig .tc := ⟨.hbm, 426, rfl⟩
abbrev main_call1_call0_c_28 : Ref sig .tc := ⟨.hbm, 427, rfl⟩
abbrev main_call1_call0_v111 : Ref sig .tc := ⟨.hbm, 428, rfl⟩
abbrev main_call1_call0_v112 : Ref sig .tc := ⟨.hbm, 429, rfl⟩
abbrev main_call1_call0_v113 : Ref sig .tc := ⟨.hbm, 430, rfl⟩
abbrev main_call1_call0_v114 : Ref sig .tc := ⟨.hbm, 431, rfl⟩
abbrev main_call1_call0_v115 : Ref sig .tc := ⟨.hbm, 432, rfl⟩
abbrev main_call1_call0_c_29 : Ref sig .tc := ⟨.hbm, 433, rfl⟩
abbrev main_call1_call0_v116 : Ref sig .tc := ⟨.hbm, 434, rfl⟩
abbrev main_call1_call0_v117 : Ref sig .tc := ⟨.hbm, 435, rfl⟩
abbrev main_call1_call0_c_30 : Ref sig .tc := ⟨.hbm, 436, rfl⟩
abbrev main_call1_call0_v118 : Ref sig .tc := ⟨.hbm, 437, rfl⟩
abbrev main_call1_call0_v119 : Ref sig .tc := ⟨.hbm, 438, rfl⟩
abbrev main_call1_call0_v120 : Ref sig .tc := ⟨.hbm, 439, rfl⟩
abbrev main_call1_call0_v121 : Ref sig .tc := ⟨.hbm, 440, rfl⟩
abbrev main_call1_call0_v122 : Ref sig .tc := ⟨.hbm, 441, rfl⟩
abbrev main_call1_call0_c_31 : Ref sig .tc := ⟨.hbm, 442, rfl⟩
abbrev main_call1_call0_v123 : Ref sig .tc := ⟨.hbm, 443, rfl⟩
abbrev main_call1_call0_v124 : Ref sig .tc := ⟨.hbm, 444, rfl⟩
abbrev main_call1_call0_c_32 : Ref sig .tc := ⟨.hbm, 445, rfl⟩
abbrev main_call1_call0_v125 : Ref sig .tc := ⟨.hbm, 446, rfl⟩
abbrev main_call1_call0_v126 : Ref sig .tc := ⟨.hbm, 447, rfl⟩
abbrev main_call1_call0_v127 : Ref sig .tc := ⟨.hbm, 448, rfl⟩
abbrev main_call1_call0_v128 : Ref sig .tc := ⟨.hbm, 449, rfl⟩
abbrev main_call1_call0_v129 : Ref sig .tc := ⟨.hbm, 450, rfl⟩
abbrev main_call1_call0_c_33 : Ref sig .tc := ⟨.hbm, 451, rfl⟩
abbrev main_call1_call0_v130 : Ref sig .tc := ⟨.hbm, 452, rfl⟩
abbrev main_call1_call0_v131 : Ref sig .tc := ⟨.hbm, 453, rfl⟩
abbrev main_call1_call0_c_34 : Ref sig .tc := ⟨.hbm, 454, rfl⟩
abbrev main_call1_call0_v132 : Ref sig .tc := ⟨.hbm, 455, rfl⟩
abbrev main_call1_call0_v133 : Ref sig .tc := ⟨.hbm, 456, rfl⟩
abbrev main_call1_call0_v134 : Ref sig .tc := ⟨.hbm, 457, rfl⟩
abbrev main_call1_call0_v135 : Ref sig .tc := ⟨.hbm, 458, rfl⟩
abbrev main_call1_call0_v136 : Ref sig .tc := ⟨.hbm, 459, rfl⟩
abbrev main_call1_call0_v137 : Ref sig .tc := ⟨.hbm, 460, rfl⟩
abbrev main_call1_call0_v138 : Ref sig .tc := ⟨.hbm, 461, rfl⟩
abbrev main_call1_call0_v139 : Ref sig .tc := ⟨.hbm, 462, rfl⟩
abbrev main_call1_call0_c_35 : Ref sig .tc := ⟨.hbm, 463, rfl⟩
abbrev main_call1_call0_v140 : Ref sig .tc := ⟨.hbm, 464, rfl⟩
abbrev main_call1_call0_v141 : Ref sig .tc := ⟨.hbm, 465, rfl⟩
abbrev main_call1_call0_v142 : Ref sig .tc := ⟨.hbm, 466, rfl⟩
abbrev main_call1_call0_c_36 : Ref sig .tc := ⟨.hbm, 467, rfl⟩
abbrev main_call1_call0_v143 : Ref sig .tc := ⟨.hbm, 468, rfl⟩
abbrev main_call1_call0_v144 : Ref sig .tc := ⟨.hbm, 469, rfl⟩
abbrev main_call1_call0_c_37 : Ref sig .tc := ⟨.hbm, 470, rfl⟩
abbrev main_call1_call0_v145 : Ref sig .tc := ⟨.hbm, 471, rfl⟩
abbrev main_call1_call0_v146 : Ref sig .tc := ⟨.hbm, 472, rfl⟩
abbrev main_call1_call0_v147 : Ref sig .tc := ⟨.hbm, 473, rfl⟩
abbrev main_call1_call0_v148 : Ref sig .tc := ⟨.hbm, 474, rfl⟩
abbrev main_call1_call0_v149 : Ref sig .tc := ⟨.hbm, 475, rfl⟩
abbrev main_call1_call0_c_38 : Ref sig .tc := ⟨.hbm, 476, rfl⟩
abbrev main_call1_call0_v150 : Ref sig .tc := ⟨.hbm, 477, rfl⟩
abbrev main_call1_call0_v151 : Ref sig .tc := ⟨.hbm, 478, rfl⟩
abbrev main_call1_call0_c_39 : Ref sig .tc := ⟨.hbm, 479, rfl⟩
abbrev main_call1_call0_v152 : Ref sig .tc := ⟨.hbm, 480, rfl⟩
abbrev main_call1_call0_v153 : Ref sig .tc := ⟨.hbm, 481, rfl⟩
abbrev main_call1_call0_v154 : Ref sig .tc := ⟨.hbm, 482, rfl⟩
abbrev main_call1_call0_v155 : Ref sig .tc := ⟨.hbm, 483, rfl⟩
abbrev main_call1_call0_v156 : Ref sig .tc := ⟨.hbm, 484, rfl⟩
abbrev main_call1_call0_c_40 : Ref sig .tc := ⟨.hbm, 485, rfl⟩
abbrev main_call1_call0_v157 : Ref sig .tc := ⟨.hbm, 486, rfl⟩
abbrev main_call1_call0_v158 : Ref sig .tc := ⟨.hbm, 487, rfl⟩
abbrev main_call1_call0_c_41 : Ref sig .tc := ⟨.hbm, 488, rfl⟩
abbrev main_call1_call0_v159 : Ref sig .tc := ⟨.hbm, 489, rfl⟩
abbrev main_call1_call0_v160 : Ref sig .tc := ⟨.hbm, 490, rfl⟩
abbrev main_call1_call0_v161 : Ref sig .tc := ⟨.hbm, 491, rfl⟩
abbrev main_call1_call0_v162 : Ref sig .tc := ⟨.hbm, 492, rfl⟩
abbrev main_call1_call0_v163 : Ref sig .tc := ⟨.hbm, 493, rfl⟩
abbrev main_call1_call0_c_42 : Ref sig .tc := ⟨.hbm, 494, rfl⟩
abbrev main_call1_call0_v164 : Ref sig .tc := ⟨.hbm, 495, rfl⟩
abbrev main_call1_call0_v165 : Ref sig .tc := ⟨.hbm, 496, rfl⟩
abbrev main_call1_call0_c_43 : Ref sig .tc := ⟨.hbm, 497, rfl⟩
abbrev main_call1_call0_v166 : Ref sig .tc := ⟨.hbm, 498, rfl⟩
abbrev main_call1_call0_v167 : Ref sig .tc := ⟨.hbm, 499, rfl⟩
abbrev main_call1_call0_v168 : Ref sig .tc := ⟨.hbm, 500, rfl⟩
abbrev main_call1_call0_v169 : Ref sig .tc := ⟨.hbm, 501, rfl⟩
abbrev main_call1_call0_v170 : Ref sig .tc := ⟨.hbm, 502, rfl⟩
abbrev main_call1_v23_0 : Ref sig .tc := ⟨.hbm, 503, rfl⟩
abbrev main_call1_call0_v172 : Ref sig .tc := ⟨.hbm, 504, rfl⟩
abbrev main_call1_call0_v173 : Ref sig .tc := ⟨.hbm, 505, rfl⟩
abbrev main_call1_call0_c_44 : Ref sig .tc := ⟨.hbm, 506, rfl⟩
abbrev main_call1_call0_v174 : Ref sig .tc := ⟨.hbm, 507, rfl⟩
abbrev main_call1_v23_1 : Ref sig .tc := ⟨.hbm, 508, rfl⟩
abbrev main_call1_v24 : Ref sig .tc := ⟨.hbm, 509, rfl⟩
abbrev main_call1_c_3 : Ref sig .tc := ⟨.hbm, 510, rfl⟩
abbrev main_call1_v25 : Ref sig .tc := ⟨.hbm, 511, rfl⟩
abbrev main_call1_v26 : Ref sig .tc := ⟨.hbm, 512, rfl⟩
abbrev main_call1_c_4 : Ref sig .tc := ⟨.hbm, 513, rfl⟩
abbrev main_call1_v27 : Ref sig .tc := ⟨.hbm, 514, rfl⟩
abbrev main_call1_v28 : Ref sig .tc := ⟨.hbm, 515, rfl⟩
abbrev main_call1_v29 : Ref sig .tc := ⟨.hbm, 516, rfl⟩
abbrev main_call1_cst : Ref sig .tc := ⟨.hbm, 517, rfl⟩
abbrev main_call1_v30 : Ref sig .tc := ⟨.hbm, 518, rfl⟩
abbrev main_call1_v31 : Ref sig .tc := ⟨.hbm, 519, rfl⟩
abbrev main_call1_v32 : Ref sig .tc := ⟨.hbm, 520, rfl⟩
abbrev main_call1_v33 : Ref sig .tc := ⟨.hbm, 521, rfl⟩
abbrev main_call1_v34 : Ref sig .tc := ⟨.hbm, 522, rfl⟩
abbrev main_call1_v35 : Ref sig .tc := ⟨.hbm, 523, rfl⟩
abbrev main_call1_v36 : Ref sig .tc := ⟨.hbm, 524, rfl⟩
abbrev main_call1_v37 : Ref sig .tc := ⟨.hbm, 525, rfl⟩
abbrev main_v14 : Ref sig .tc := ⟨.hbm, 526, rfl⟩
abbrev main_cst_3 : Ref sig .tc := ⟨.hbm, 527, rfl⟩
abbrev main_v15 : Ref sig .tc := ⟨.hbm, 528, rfl⟩
abbrev main_v16 : Ref sig .tc := ⟨.hbm, 529, rfl⟩
abbrev main_v17 : Ref sig .tc := ⟨.hbm, 530, rfl⟩
abbrev main_v18 : Ref sig .tc := ⟨.hbm, 531, rfl⟩
abbrev main_v19 : Ref sig .tc := ⟨.hbm, 532, rfl⟩
abbrev main_v20 : Ref sig .tc := ⟨.hbm, 533, rfl⟩
abbrev main_v21 : Ref sig .tc := ⟨.hbm, 534, rfl⟩
abbrev main_v22 : Ref sig .tc := ⟨.hbm, 535, rfl⟩
abbrev main_v23 : Ref sig .tc := ⟨.hbm, 536, rfl⟩
abbrev main_call2_v0 : Ref sig .tc := ⟨.hbm, 537, rfl⟩
abbrev main_call2_cst : Ref sig .tc := ⟨.hbm, 538, rfl⟩
abbrev main_call2_c : Ref sig .tc := ⟨.hbm, 539, rfl⟩
abbrev main_call2_v1_0 : Ref sig .tc := ⟨.hbm, 540, rfl⟩
abbrev main_v24 : Ref sig .tc := ⟨.hbm, 541, rfl⟩
abbrev main_v25 : Ref sig .tc := ⟨.hbm, 542, rfl⟩
abbrev main_v26 : Ref sig .tc := ⟨.hbm, 543, rfl⟩
abbrev main_v27 : Ref sig .tc := ⟨.hbm, 544, rfl⟩
abbrev main_v28 : Ref sig .tc := ⟨.hbm, 545, rfl⟩
abbrev main_v29 : Ref sig .tc := ⟨.hbm, 546, rfl⟩
abbrev main_cst_4 : Ref sig .tc := ⟨.hbm, 547, rfl⟩
abbrev main_v30 : Ref sig .tc := ⟨.hbm, 548, rfl⟩
abbrev main_v31 : Ref sig .tc := ⟨.hbm, 549, rfl⟩
abbrev main_cst_5 : Ref sig .tc := ⟨.hbm, 550, rfl⟩
abbrev main_v32 : Ref sig .tc := ⟨.hbm, 551, rfl⟩
abbrev main_v33 : Ref sig .tc := ⟨.hbm, 552, rfl⟩
abbrev main_call3_cst : Ref sig .tc := ⟨.hbm, 553, rfl⟩
abbrev main_call3_cst_0 : Ref sig .tc := ⟨.hbm, 554, rfl⟩
abbrev main_call3_call0_v0 : Ref sig .tc := ⟨.hbm, 555, rfl⟩
abbrev main_call3_call0_v1 : Ref sig .tc := ⟨.hbm, 556, rfl⟩
abbrev main_call3_call0_v2 : Ref sig .tc := ⟨.hbm, 557, rfl⟩
abbrev main_call3_call0_v3 : Ref sig .tc := ⟨.hbm, 558, rfl⟩
abbrev main_call3_call0_v4 : Ref sig .tc := ⟨.hbm, 559, rfl⟩
abbrev main_call3_call0_v5 : Ref sig .tc := ⟨.hbm, 560, rfl⟩
abbrev main_call3_call0_v6 : Ref sig .tc := ⟨.hbm, 561, rfl⟩
abbrev main_call3_call0_v7 : Ref sig .tc := ⟨.hbm, 562, rfl⟩
abbrev main_call3_call0_v8 : Ref sig .tc := ⟨.hbm, 563, rfl⟩
abbrev main_call3_call0_c : Ref sig .tc := ⟨.hbm, 564, rfl⟩
abbrev main_call3_call0_v9 : Ref sig .tc := ⟨.hbm, 565, rfl⟩
abbrev main_call3_call0_v10 : Ref sig .tc := ⟨.hbm, 566, rfl⟩
abbrev main_call3_call0_c_0 : Ref sig .tc := ⟨.hbm, 567, rfl⟩
abbrev main_call3_call0_v11 : Ref sig .tc := ⟨.hbm, 568, rfl⟩
abbrev main_call3_call0_v12 : Ref sig .tc := ⟨.hbm, 569, rfl⟩
abbrev main_call3_call0_v13 : Ref sig .tc := ⟨.hbm, 570, rfl⟩
abbrev main_call3_call0_v14 : Ref sig .tc := ⟨.hbm, 571, rfl⟩
abbrev main_call3_call0_call0_v0 : Ref sig .tc := ⟨.hbm, 572, rfl⟩
abbrev main_call3_call0_call0_c : Ref sig .tc := ⟨.hbm, 573, rfl⟩
abbrev main_call3_call0_call0_v1 : Ref sig .tc := ⟨.hbm, 574, rfl⟩
abbrev main_call3_call0_call0_v2 : Ref sig .tc := ⟨.hbm, 575, rfl⟩
abbrev main_call3_call0_call0_v3 : Ref sig .tc := ⟨.hbm, 576, rfl⟩
abbrev main_call3_call0_call0_v4 : Ref sig .tc := ⟨.hbm, 577, rfl⟩
abbrev main_call3_call0_call0_v5 : Ref sig .tc := ⟨.hbm, 578, rfl⟩
abbrev main_call3_call0_call0_v6 : Ref sig .tc := ⟨.hbm, 579, rfl⟩
abbrev main_call3_call0_call0_c_0 : Ref sig .tc := ⟨.hbm, 580, rfl⟩
abbrev main_call3_call0_call0_v7 : Ref sig .tc := ⟨.hbm, 581, rfl⟩
abbrev main_call3_call0_call0_v8 : Ref sig .tc := ⟨.hbm, 582, rfl⟩
abbrev main_call3_call0_call0_c_1 : Ref sig .tc := ⟨.hbm, 583, rfl⟩
abbrev main_call3_call0_call0_v9 : Ref sig .tc := ⟨.hbm, 584, rfl⟩
abbrev main_call3_call0_call0_v10 : Ref sig .tc := ⟨.hbm, 585, rfl⟩
abbrev main_call3_call0_call0_v11 : Ref sig .tc := ⟨.hbm, 586, rfl⟩
abbrev main_call3_call0_call0_v12 : Ref sig .tc := ⟨.hbm, 587, rfl⟩
abbrev main_call3_call0_call0_v13 : Ref sig .tc := ⟨.hbm, 588, rfl⟩
abbrev main_call3_call0_call0_c_2 : Ref sig .tc := ⟨.hbm, 589, rfl⟩
abbrev main_call3_call0_call0_v14 : Ref sig .tc := ⟨.hbm, 590, rfl⟩
abbrev main_call3_call0_call0_v15 : Ref sig .tc := ⟨.hbm, 591, rfl⟩
abbrev main_call3_call0_call0_c_3 : Ref sig .tc := ⟨.hbm, 592, rfl⟩
abbrev main_call3_call0_call0_v16 : Ref sig .tc := ⟨.hbm, 593, rfl⟩
abbrev main_call3_call0_call0_v17 : Ref sig .tc := ⟨.hbm, 594, rfl⟩
abbrev main_call3_call0_call0_v18 : Ref sig .tc := ⟨.hbm, 595, rfl⟩
abbrev main_call3_call0_call0_v19 : Ref sig .tc := ⟨.hbm, 596, rfl⟩
abbrev main_call3_call0_call0_v20 : Ref sig .tc := ⟨.hbm, 597, rfl⟩
abbrev main_call3_call0_call0_c_4 : Ref sig .tc := ⟨.hbm, 598, rfl⟩
abbrev main_call3_call0_call0_v21 : Ref sig .tc := ⟨.hbm, 599, rfl⟩
abbrev main_call3_call0_call0_v22 : Ref sig .tc := ⟨.hbm, 600, rfl⟩
abbrev main_call3_call0_call0_c_5 : Ref sig .tc := ⟨.hbm, 601, rfl⟩
abbrev main_call3_call0_call0_v23 : Ref sig .tc := ⟨.hbm, 602, rfl⟩
abbrev main_call3_call0_call0_v24 : Ref sig .tc := ⟨.hbm, 603, rfl⟩
abbrev main_call3_call0_call0_v25 : Ref sig .tc := ⟨.hbm, 604, rfl⟩
abbrev main_call3_call0_call0_v26 : Ref sig .tc := ⟨.hbm, 605, rfl⟩
abbrev main_call3_call0_call0_v27 : Ref sig .tc := ⟨.hbm, 606, rfl⟩
abbrev main_call3_call0_call0_c_6 : Ref sig .tc := ⟨.hbm, 607, rfl⟩
abbrev main_call3_call0_call0_v28 : Ref sig .tc := ⟨.hbm, 608, rfl⟩
abbrev main_call3_call0_call0_v29 : Ref sig .tc := ⟨.hbm, 609, rfl⟩
abbrev main_call3_call0_call0_c_7 : Ref sig .tc := ⟨.hbm, 610, rfl⟩
abbrev main_call3_call0_call0_v30 : Ref sig .tc := ⟨.hbm, 611, rfl⟩
abbrev main_call3_call0_call0_v31 : Ref sig .tc := ⟨.hbm, 612, rfl⟩
abbrev main_call3_call0_call0_v32 : Ref sig .tc := ⟨.hbm, 613, rfl⟩
abbrev main_call3_call0_call0_v33 : Ref sig .tc := ⟨.hbm, 614, rfl⟩
abbrev main_call3_call0_call0_v34 : Ref sig .tc := ⟨.hbm, 615, rfl⟩
abbrev main_call3_call0_call0_v35 : Ref sig .tc := ⟨.hbm, 616, rfl⟩
abbrev main_call3_call0_call0_v36 : Ref sig .tc := ⟨.hbm, 617, rfl⟩
abbrev main_call3_call0_call0_v37 : Ref sig .tc := ⟨.hbm, 618, rfl⟩
abbrev main_call3_call0_call0_c_8 : Ref sig .tc := ⟨.hbm, 619, rfl⟩
abbrev main_call3_call0_call0_v38 : Ref sig .tc := ⟨.hbm, 620, rfl⟩
abbrev main_call3_call0_call0_v39 : Ref sig .tc := ⟨.hbm, 621, rfl⟩
abbrev main_call3_call0_call0_v40 : Ref sig .tc := ⟨.hbm, 622, rfl⟩
abbrev main_call3_call0_call0_c_9 : Ref sig .tc := ⟨.hbm, 623, rfl⟩
abbrev main_call3_call0_call0_v41 : Ref sig .tc := ⟨.hbm, 624, rfl⟩
abbrev main_call3_call0_call0_v42 : Ref sig .tc := ⟨.hbm, 625, rfl⟩
abbrev main_call3_call0_call0_c_10 : Ref sig .tc := ⟨.hbm, 626, rfl⟩
abbrev main_call3_call0_call0_v43 : Ref sig .tc := ⟨.hbm, 627, rfl⟩
abbrev main_call3_call0_call0_v44 : Ref sig .tc := ⟨.hbm, 628, rfl⟩
abbrev main_call3_call0_call0_v45 : Ref sig .tc := ⟨.hbm, 629, rfl⟩
abbrev main_call3_call0_call0_v46 : Ref sig .tc := ⟨.hbm, 630, rfl⟩
abbrev main_call3_call0_call0_v47 : Ref sig .tc := ⟨.hbm, 631, rfl⟩
abbrev main_call3_call0_call0_c_11 : Ref sig .tc := ⟨.hbm, 632, rfl⟩
abbrev main_call3_call0_call0_v48 : Ref sig .tc := ⟨.hbm, 633, rfl⟩
abbrev main_call3_call0_call0_v49 : Ref sig .tc := ⟨.hbm, 634, rfl⟩
abbrev main_call3_call0_call0_c_12 : Ref sig .tc := ⟨.hbm, 635, rfl⟩
abbrev main_call3_call0_call0_v50 : Ref sig .tc := ⟨.hbm, 636, rfl⟩
abbrev main_call3_call0_call0_v51 : Ref sig .tc := ⟨.hbm, 637, rfl⟩
abbrev main_call3_call0_call0_v52 : Ref sig .tc := ⟨.hbm, 638, rfl⟩
abbrev main_call3_call0_call0_v53 : Ref sig .tc := ⟨.hbm, 639, rfl⟩
abbrev main_call3_call0_call0_v54 : Ref sig .tc := ⟨.hbm, 640, rfl⟩
abbrev main_call3_call0_call0_c_13 : Ref sig .tc := ⟨.hbm, 641, rfl⟩
abbrev main_call3_call0_call0_v55 : Ref sig .tc := ⟨.hbm, 642, rfl⟩
abbrev main_call3_call0_call0_v56 : Ref sig .tc := ⟨.hbm, 643, rfl⟩
abbrev main_call3_call0_call0_c_14 : Ref sig .tc := ⟨.hbm, 644, rfl⟩
abbrev main_call3_call0_call0_v57 : Ref sig .tc := ⟨.hbm, 645, rfl⟩
abbrev main_call3_call0_call0_v58 : Ref sig .tc := ⟨.hbm, 646, rfl⟩
abbrev main_call3_call0_call0_v59 : Ref sig .tc := ⟨.hbm, 647, rfl⟩
abbrev main_call3_call0_call0_v60 : Ref sig .tc := ⟨.hbm, 648, rfl⟩
abbrev main_call3_call0_call0_v61 : Ref sig .tc := ⟨.hbm, 649, rfl⟩
abbrev main_call3_call0_call0_c_15 : Ref sig .tc := ⟨.hbm, 650, rfl⟩
abbrev main_call3_call0_call0_v62 : Ref sig .tc := ⟨.hbm, 651, rfl⟩
abbrev main_call3_call0_call0_v63 : Ref sig .tc := ⟨.hbm, 652, rfl⟩
abbrev main_call3_call0_call0_c_16 : Ref sig .tc := ⟨.hbm, 653, rfl⟩
abbrev main_call3_call0_call0_v64 : Ref sig .tc := ⟨.hbm, 654, rfl⟩
abbrev main_call3_call0_call0_v65 : Ref sig .tc := ⟨.hbm, 655, rfl⟩
abbrev main_call3_call0_call0_v66 : Ref sig .tc := ⟨.hbm, 656, rfl⟩
abbrev main_call3_call0_call0_v67 : Ref sig .tc := ⟨.hbm, 657, rfl⟩
abbrev main_call3_call0_call0_v68 : Ref sig .tc := ⟨.hbm, 658, rfl⟩
abbrev main_call3_call0_call0_v69 : Ref sig .tc := ⟨.hbm, 659, rfl⟩
abbrev main_call3_call0_call0_v70 : Ref sig .tc := ⟨.hbm, 660, rfl⟩
abbrev main_call3_call0_call0_v71 : Ref sig .tc := ⟨.hbm, 661, rfl⟩
abbrev main_call3_call0_call0_c_17 : Ref sig .tc := ⟨.hbm, 662, rfl⟩
abbrev main_call3_call0_call0_v72 : Ref sig .tc := ⟨.hbm, 663, rfl⟩
abbrev main_call3_call0_call0_v73 : Ref sig .tc := ⟨.hbm, 664, rfl⟩
abbrev main_call3_call0_call0_v74 : Ref sig .tc := ⟨.hbm, 665, rfl⟩
abbrev main_call3_call0_call0_c_18 : Ref sig .tc := ⟨.hbm, 666, rfl⟩
abbrev main_call3_call0_call0_v75 : Ref sig .tc := ⟨.hbm, 667, rfl⟩
abbrev main_call3_call0_call0_v76 : Ref sig .tc := ⟨.hbm, 668, rfl⟩
abbrev main_call3_call0_call0_c_19 : Ref sig .tc := ⟨.hbm, 669, rfl⟩
abbrev main_call3_call0_call0_v77 : Ref sig .tc := ⟨.hbm, 670, rfl⟩
abbrev main_call3_call0_call0_v78 : Ref sig .tc := ⟨.hbm, 671, rfl⟩
abbrev main_call3_call0_call0_v79 : Ref sig .tc := ⟨.hbm, 672, rfl⟩
abbrev main_call3_call0_call0_v80 : Ref sig .tc := ⟨.hbm, 673, rfl⟩
abbrev main_call3_call0_call0_v81 : Ref sig .tc := ⟨.hbm, 674, rfl⟩
abbrev main_call3_call0_call0_c_20 : Ref sig .tc := ⟨.hbm, 675, rfl⟩
abbrev main_call3_call0_call0_v82 : Ref sig .tc := ⟨.hbm, 676, rfl⟩
abbrev main_call3_call0_call0_v83 : Ref sig .tc := ⟨.hbm, 677, rfl⟩
abbrev main_call3_call0_call0_c_21 : Ref sig .tc := ⟨.hbm, 678, rfl⟩
abbrev main_call3_call0_call0_v84 : Ref sig .tc := ⟨.hbm, 679, rfl⟩
abbrev main_call3_call0_call0_v85 : Ref sig .tc := ⟨.hbm, 680, rfl⟩
abbrev main_call3_call0_call0_v86 : Ref sig .tc := ⟨.hbm, 681, rfl⟩
abbrev main_call3_call0_call0_v87 : Ref sig .tc := ⟨.hbm, 682, rfl⟩
abbrev main_call3_call0_call0_v88 : Ref sig .tc := ⟨.hbm, 683, rfl⟩
abbrev main_call3_call0_call0_c_22 : Ref sig .tc := ⟨.hbm, 684, rfl⟩
abbrev main_call3_call0_call0_v89 : Ref sig .tc := ⟨.hbm, 685, rfl⟩
abbrev main_call3_call0_call0_v90 : Ref sig .tc := ⟨.hbm, 686, rfl⟩
abbrev main_call3_call0_call0_c_23 : Ref sig .tc := ⟨.hbm, 687, rfl⟩
abbrev main_call3_call0_call0_v91 : Ref sig .tc := ⟨.hbm, 688, rfl⟩
abbrev main_call3_call0_call0_v92 : Ref sig .tc := ⟨.hbm, 689, rfl⟩
abbrev main_call3_call0_call0_v93 : Ref sig .tc := ⟨.hbm, 690, rfl⟩
abbrev main_call3_call0_call0_v94 : Ref sig .tc := ⟨.hbm, 691, rfl⟩
abbrev main_call3_call0_call0_v95 : Ref sig .tc := ⟨.hbm, 692, rfl⟩
abbrev main_call3_call0_call0_c_24 : Ref sig .tc := ⟨.hbm, 693, rfl⟩
abbrev main_call3_call0_call0_v96 : Ref sig .tc := ⟨.hbm, 694, rfl⟩
abbrev main_call3_call0_call0_v97 : Ref sig .tc := ⟨.hbm, 695, rfl⟩
abbrev main_call3_call0_call0_c_25 : Ref sig .tc := ⟨.hbm, 696, rfl⟩
abbrev main_call3_call0_call0_v98 : Ref sig .tc := ⟨.hbm, 697, rfl⟩
abbrev main_call3_call0_call0_v99 : Ref sig .tc := ⟨.hbm, 698, rfl⟩
abbrev main_call3_call0_call0_v100 : Ref sig .tc := ⟨.hbm, 699, rfl⟩
abbrev main_call3_call0_call0_v101 : Ref sig .tc := ⟨.hbm, 700, rfl⟩
abbrev main_call3_call0_call0_v102 : Ref sig .tc := ⟨.hbm, 701, rfl⟩
abbrev main_call3_call0_call0_v103 : Ref sig .tc := ⟨.hbm, 702, rfl⟩
abbrev main_call3_call0_call0_v104 : Ref sig .tc := ⟨.hbm, 703, rfl⟩
abbrev main_call3_call0_call0_v105 : Ref sig .tc := ⟨.hbm, 704, rfl⟩
abbrev main_call3_call0_call0_c_26 : Ref sig .tc := ⟨.hbm, 705, rfl⟩
abbrev main_call3_call0_call0_v106 : Ref sig .tc := ⟨.hbm, 706, rfl⟩
abbrev main_call3_call0_call0_v107 : Ref sig .tc := ⟨.hbm, 707, rfl⟩
abbrev main_call3_call0_call0_v108 : Ref sig .tc := ⟨.hbm, 708, rfl⟩
abbrev main_call3_call0_call0_c_27 : Ref sig .tc := ⟨.hbm, 709, rfl⟩
abbrev main_call3_call0_call0_v109 : Ref sig .tc := ⟨.hbm, 710, rfl⟩
abbrev main_call3_call0_call0_v110 : Ref sig .tc := ⟨.hbm, 711, rfl⟩
abbrev main_call3_call0_call0_c_28 : Ref sig .tc := ⟨.hbm, 712, rfl⟩
abbrev main_call3_call0_call0_v111 : Ref sig .tc := ⟨.hbm, 713, rfl⟩
abbrev main_call3_call0_call0_v112 : Ref sig .tc := ⟨.hbm, 714, rfl⟩
abbrev main_call3_call0_call0_v113 : Ref sig .tc := ⟨.hbm, 715, rfl⟩
abbrev main_call3_call0_call0_v114 : Ref sig .tc := ⟨.hbm, 716, rfl⟩
abbrev main_call3_call0_call0_v115 : Ref sig .tc := ⟨.hbm, 717, rfl⟩
abbrev main_call3_call0_call0_c_29 : Ref sig .tc := ⟨.hbm, 718, rfl⟩
abbrev main_call3_call0_call0_v116 : Ref sig .tc := ⟨.hbm, 719, rfl⟩
abbrev main_call3_call0_call0_v117 : Ref sig .tc := ⟨.hbm, 720, rfl⟩
abbrev main_call3_call0_call0_c_30 : Ref sig .tc := ⟨.hbm, 721, rfl⟩
abbrev main_call3_call0_call0_v118 : Ref sig .tc := ⟨.hbm, 722, rfl⟩
abbrev main_call3_call0_call0_v119 : Ref sig .tc := ⟨.hbm, 723, rfl⟩
abbrev main_call3_call0_call0_v120 : Ref sig .tc := ⟨.hbm, 724, rfl⟩
abbrev main_call3_call0_call0_v121 : Ref sig .tc := ⟨.hbm, 725, rfl⟩
abbrev main_call3_call0_call0_v122 : Ref sig .tc := ⟨.hbm, 726, rfl⟩
abbrev main_call3_call0_call0_c_31 : Ref sig .tc := ⟨.hbm, 727, rfl⟩
abbrev main_call3_call0_call0_v123 : Ref sig .tc := ⟨.hbm, 728, rfl⟩
abbrev main_call3_call0_call0_v124 : Ref sig .tc := ⟨.hbm, 729, rfl⟩
abbrev main_call3_call0_call0_c_32 : Ref sig .tc := ⟨.hbm, 730, rfl⟩
abbrev main_call3_call0_call0_v125 : Ref sig .tc := ⟨.hbm, 731, rfl⟩
abbrev main_call3_call0_call0_v126 : Ref sig .tc := ⟨.hbm, 732, rfl⟩
abbrev main_call3_call0_call0_v127 : Ref sig .tc := ⟨.hbm, 733, rfl⟩
abbrev main_call3_call0_call0_v128 : Ref sig .tc := ⟨.hbm, 734, rfl⟩
abbrev main_call3_call0_call0_v129 : Ref sig .tc := ⟨.hbm, 735, rfl⟩
abbrev main_call3_call0_call0_c_33 : Ref sig .tc := ⟨.hbm, 736, rfl⟩
abbrev main_call3_call0_call0_v130 : Ref sig .tc := ⟨.hbm, 737, rfl⟩
abbrev main_call3_call0_call0_v131 : Ref sig .tc := ⟨.hbm, 738, rfl⟩
abbrev main_call3_call0_call0_c_34 : Ref sig .tc := ⟨.hbm, 739, rfl⟩
abbrev main_call3_call0_call0_v132 : Ref sig .tc := ⟨.hbm, 740, rfl⟩
abbrev main_call3_call0_call0_v133 : Ref sig .tc := ⟨.hbm, 741, rfl⟩
abbrev main_call3_call0_call0_v134 : Ref sig .tc := ⟨.hbm, 742, rfl⟩
abbrev main_call3_call0_call0_v135 : Ref sig .tc := ⟨.hbm, 743, rfl⟩
abbrev main_call3_call0_call0_v136 : Ref sig .tc := ⟨.hbm, 744, rfl⟩
abbrev main_call3_call0_call0_v137 : Ref sig .tc := ⟨.hbm, 745, rfl⟩
abbrev main_call3_call0_call0_v138 : Ref sig .tc := ⟨.hbm, 746, rfl⟩
abbrev main_call3_call0_call0_v139 : Ref sig .tc := ⟨.hbm, 747, rfl⟩
abbrev main_call3_call0_call0_c_35 : Ref sig .tc := ⟨.hbm, 748, rfl⟩
abbrev main_call3_call0_call0_v140 : Ref sig .tc := ⟨.hbm, 749, rfl⟩
abbrev main_call3_call0_call0_v141 : Ref sig .tc := ⟨.hbm, 750, rfl⟩
abbrev main_call3_call0_call0_v142 : Ref sig .tc := ⟨.hbm, 751, rfl⟩
abbrev main_call3_call0_call0_c_36 : Ref sig .tc := ⟨.hbm, 752, rfl⟩
abbrev main_call3_call0_call0_v143 : Ref sig .tc := ⟨.hbm, 753, rfl⟩
abbrev main_call3_call0_call0_v144 : Ref sig .tc := ⟨.hbm, 754, rfl⟩
abbrev main_call3_call0_call0_c_37 : Ref sig .tc := ⟨.hbm, 755, rfl⟩
abbrev main_call3_call0_call0_v145 : Ref sig .tc := ⟨.hbm, 756, rfl⟩
abbrev main_call3_call0_call0_v146 : Ref sig .tc := ⟨.hbm, 757, rfl⟩
abbrev main_call3_call0_call0_v147 : Ref sig .tc := ⟨.hbm, 758, rfl⟩
abbrev main_call3_call0_call0_v148 : Ref sig .tc := ⟨.hbm, 759, rfl⟩
abbrev main_call3_call0_call0_v149 : Ref sig .tc := ⟨.hbm, 760, rfl⟩
abbrev main_call3_call0_call0_c_38 : Ref sig .tc := ⟨.hbm, 761, rfl⟩
abbrev main_call3_call0_call0_v150 : Ref sig .tc := ⟨.hbm, 762, rfl⟩
abbrev main_call3_call0_call0_v151 : Ref sig .tc := ⟨.hbm, 763, rfl⟩
abbrev main_call3_call0_call0_c_39 : Ref sig .tc := ⟨.hbm, 764, rfl⟩
abbrev main_call3_call0_call0_v152 : Ref sig .tc := ⟨.hbm, 765, rfl⟩
abbrev main_call3_call0_call0_v153 : Ref sig .tc := ⟨.hbm, 766, rfl⟩
abbrev main_call3_call0_call0_v154 : Ref sig .tc := ⟨.hbm, 767, rfl⟩
abbrev main_call3_call0_call0_v155 : Ref sig .tc := ⟨.hbm, 768, rfl⟩
abbrev main_call3_call0_call0_v156 : Ref sig .tc := ⟨.hbm, 769, rfl⟩
abbrev main_call3_call0_call0_c_40 : Ref sig .tc := ⟨.hbm, 770, rfl⟩
abbrev main_call3_call0_call0_v157 : Ref sig .tc := ⟨.hbm, 771, rfl⟩
abbrev main_call3_call0_call0_v158 : Ref sig .tc := ⟨.hbm, 772, rfl⟩
abbrev main_call3_call0_call0_c_41 : Ref sig .tc := ⟨.hbm, 773, rfl⟩
abbrev main_call3_call0_call0_v159 : Ref sig .tc := ⟨.hbm, 774, rfl⟩
abbrev main_call3_call0_call0_v160 : Ref sig .tc := ⟨.hbm, 775, rfl⟩
abbrev main_call3_call0_call0_v161 : Ref sig .tc := ⟨.hbm, 776, rfl⟩
abbrev main_call3_call0_call0_v162 : Ref sig .tc := ⟨.hbm, 777, rfl⟩
abbrev main_call3_call0_call0_v163 : Ref sig .tc := ⟨.hbm, 778, rfl⟩
abbrev main_call3_call0_call0_c_42 : Ref sig .tc := ⟨.hbm, 779, rfl⟩
abbrev main_call3_call0_call0_v164 : Ref sig .tc := ⟨.hbm, 780, rfl⟩
abbrev main_call3_call0_call0_v165 : Ref sig .tc := ⟨.hbm, 781, rfl⟩
abbrev main_call3_call0_call0_c_43 : Ref sig .tc := ⟨.hbm, 782, rfl⟩
abbrev main_call3_call0_call0_v166 : Ref sig .tc := ⟨.hbm, 783, rfl⟩
abbrev main_call3_call0_call0_v167 : Ref sig .tc := ⟨.hbm, 784, rfl⟩
abbrev main_call3_call0_call0_v168 : Ref sig .tc := ⟨.hbm, 785, rfl⟩
abbrev main_call3_call0_call0_v169 : Ref sig .tc := ⟨.hbm, 786, rfl⟩
abbrev main_call3_call0_call0_v170 : Ref sig .tc := ⟨.hbm, 787, rfl⟩
abbrev main_call3_call0_v15_0 : Ref sig .tc := ⟨.hbm, 788, rfl⟩
abbrev main_call3_call0_call0_v172 : Ref sig .tc := ⟨.hbm, 789, rfl⟩
abbrev main_call3_call0_call0_v173 : Ref sig .tc := ⟨.hbm, 790, rfl⟩
abbrev main_call3_call0_call0_c_44 : Ref sig .tc := ⟨.hbm, 791, rfl⟩
abbrev main_call3_call0_call0_v174 : Ref sig .tc := ⟨.hbm, 792, rfl⟩
abbrev main_call3_call0_v15_1 : Ref sig .tc := ⟨.hbm, 793, rfl⟩
abbrev main_call3_call0_v16 : Ref sig .tc := ⟨.hbm, 794, rfl⟩
abbrev main_call3_call0_c_1 : Ref sig .tc := ⟨.hbm, 795, rfl⟩
abbrev main_call3_call0_v17 : Ref sig .tc := ⟨.hbm, 796, rfl⟩
abbrev main_call3_call0_v18 : Ref sig .tc := ⟨.hbm, 797, rfl⟩
abbrev main_call3_call0_c_2 : Ref sig .tc := ⟨.hbm, 798, rfl⟩
abbrev main_call3_call0_v19 : Ref sig .tc := ⟨.hbm, 799, rfl⟩
abbrev main_call3_call0_v20 : Ref sig .tc := ⟨.hbm, 800, rfl⟩
abbrev main_call3_call0_v21 : Ref sig .tc := ⟨.hbm, 801, rfl⟩
abbrev main_call3_call0_cst : Ref sig .tc := ⟨.hbm, 802, rfl⟩
abbrev main_call3_call0_v22 : Ref sig .tc := ⟨.hbm, 803, rfl⟩
abbrev main_call3_call0_v23 : Ref sig .tc := ⟨.hbm, 804, rfl⟩
abbrev main_call3_call0_v24 : Ref sig .tc := ⟨.hbm, 805, rfl⟩
abbrev main_call3_call0_v25 : Ref sig .tc := ⟨.hbm, 806, rfl⟩
abbrev main_call3_call0_v26 : Ref sig .tc := ⟨.hbm, 807, rfl⟩
abbrev main_call3_call0_v27 : Ref sig .tc := ⟨.hbm, 808, rfl⟩
abbrev main_call3_call0_v28 : Ref sig .tc := ⟨.hbm, 809, rfl⟩
abbrev main_call3_call0_v29 : Ref sig .tc := ⟨.hbm, 810, rfl⟩
abbrev main_call3_v0 : Ref sig .tc := ⟨.hbm, 811, rfl⟩
abbrev main_v34 : Ref sig .tc := ⟨.hbm, 812, rfl⟩
abbrev main_v35 : Ref sig .tc := ⟨.hbm, 813, rfl⟩

abbrev nD : Nat := 1
abbrev τ : Topo := Topo.v7x

variable {F : FTy → Type} [FloatOps F]
-- ==== Proof.KernelFrame.lean ====
/-
  The frame of the kernel: it runs, leaves its argument arrays as they were, and ends with every semaphore at zero.
  Nothing is said of the two results, so the two output windows' contents are forgotten; one run of the body serves
  every point, whichever way its branch goes.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs: the inputs come back as they were, the outputs at some contents. -/
theorem body_run (c : Dev nD) (i : grid0.Coords) (arg1 : Memref sig .tc .smem S4 .i32) (harg1 : arg1.IsWhole) (arg2 : Memref sig .tc .smem S2 .f32) (harg2 : arg2.IsWhole) (arg3 : Memref sig .tc .vmem S8x100000 .f32) (harg3 : arg3.IsWhole) (arg4 : Memref sig .tc .vmem S8x128 .f32) (harg4 : arg4.IsWhole) (arg5 : Memref sig .tc .vmem S8x2 .i32) (harg5 : arg5.IsWhole) (arg6 : Memref sig .tc .vmem S8x128 .f32) (harg6 : arg6.IsWhole)
    (x0 : Vec F S4 .i32) (x1 : Vec F S2 .f32) (x2 : Vec F S8x100000 .f32) (x3 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)) -∗ K ⟨⟩))
      ⊢ wp frame (wpE (defs₀ (F := F)) Variants.none c none) E (cc0__sample_kernel i arg1 harg1 arg2 harg2 arg3 harg3 arg4 harg4 arg5 harg5 arg6 harg6) K := by
  by_cases hc0 : k0_cond1 i = 1#1
  all_goals
    simp only [cc0__sample_kernel_eq_skeleton]; unfold cc0__sample_kernel_skel
    simp only [k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    iexists _, _; isplitr; swap; · iexact H5
    ipureintro; rfl

variable (m : (ℓ : Loc nD τ sig) → Buf (Elt F) ℓ) (ρ : Dev nD → PrngReg)

/-- The buffer the host line after the region writes: computed from contents nothing names. -/
def T0 : Finset (Ref sig .tc) := {main_v18}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- Each window's current staging memref at point `t`. -/
abbrev ms0_0 (t : Fin cfg0.N) : Memref sig .tc .smem S4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x100000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x2 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)

/-- The inputs are idle at no point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- The two output windows are forgotten. -/
def forgets0 : Fin 6 → Bool := fun w => w.val == 4 || w.val == 5

/-- The arrays as the region finds them; each input's buffer at its block; the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- An input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3]
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame. -/
theorem frame : Cert.quiescent_Kernel (hKernel := Cert.Kernel.Gen.facts) := by
  intro m ρ _
  refine (θ_run defs _ _).mono (fun r h => ⟨fun c => ⟨?_, ?_, ?_, ?_⟩, h.2⟩) (run_main m ρ)
  · exact (Pipeline.RDat.FramePostR.arr_in h.1 c 2 rfl).trans ((A_eq m c 2).trans (V_main_arg0 m c))
  · exact ((h.1 c).2 main_arg1 (Finset.mem_sdiff.mpr ⟨Pipeline.mem_restRefs_of main_arg1 (by decide) (by decide), by decide⟩)).trans (V_main_arg1 m c)
  · exact ((h.1 c).2 main_arg2 (Finset.mem_sdiff.mpr ⟨Pipeline.mem_restRefs_of main_arg2 (by decide) (by decide), by decide⟩)).trans (V_main_arg2 m c)
  · exact ((h.1 c).2 main_arg3 (Finset.mem_sdiff.mpr ⟨Pipeline.mem_restRefs_of main_arg3 (by decide) (by decide), by decide⟩)).trans (V_main_arg3 m c)

end Cert.Kernel.Run

end
-- ==== Proof.KBody.lean ====
/-
  What one grid point of the kernel leaves in its two output windows, as values the symbolic run of the body finds:
  the block of samples at every point, and at the first point (where the body's branch is taken) the block of
  Bernoulli draws as well.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole two-axis access. -/
theorem zero2 : (![0, 0] : Fin 2 → Nat) = fun _ => 0 := funext fun a => by fin_cases a <;> rfl

/-- One store of a whole block reads back as its payload. -/
theorem read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

set_option maxHeartbeats 1000000 in
/-- A point other than the first: the samples' block, and the other output's buffer as it came in. -/
def runRest (c : Dev nD) (i : grid0.Coords) (arg1 : Memref sig .tc .smem S4 .i32) (harg1 : arg1.IsWhole) (arg2 : Memref sig .tc .smem S2 .f32) (harg2 : arg2.IsWhole) (arg3 : Memref sig .tc .vmem S8x100000 .f32) (harg3 : arg3.IsWhole) (arg4 : Memref sig .tc .vmem S8x128 .f32) (harg4 : arg4.IsWhole) (arg5 : Memref sig .tc .vmem S8x2 .i32) (harg5 : arg5.IsWhole) (arg6 : Memref sig .tc .vmem S8x128 .f32) (harg6 : arg6.IsWhole) (hc0 : ¬ k0_cond1 i = 1#1)
    (x0 : Vec F S4 .i32) (x1 : Vec F S2 .f32) (x2 : Vec F S8x100000 .f32) (x3 : Vec F S8x128 .f32) :
    { s : Vec F S8x2 .i32 // ∀ (y : Vec F S8x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare y
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare s ∗ owns (c : Thread nD τ) arg6 fullShare y) -∗ K ⟨⟩))
          ⊢ wp frame (wpE (defs₀ (F := F)) Variants.none c none) E (cc0__sample_kernel i arg1 harg1 arg2 harg2 arg3 harg3 arg4 harg4 arg5 harg5 arg6 harg6) K } := by
  refine ⟨?_, fun y E K => ?run⟩
  case run =>
    simp only [cc0__sample_kernel_eq_skeleton]; unfold cc0__sample_kernel_skel
    simp only [k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact read_store_whole (F := F) (S := S8x2) _ _ zero2 _ _
    iexists _; isplitr; swap; · iexact H5
    ipureintro; exact hf5

set_option maxHeartbeats 1000000 in
/-- The first point: the samples' block and the Bernoulli block. -/
def runFirst (c : Dev nD) (i : grid0.Coords) (arg1 : Memref sig .tc .smem S4 .i32) (harg1 : arg1.IsWhole) (arg2 : Memref sig .tc .smem S2 .f32) (harg2 : arg2.IsWhole) (arg3 : Memref sig .tc .vmem S8x100000 .f32) (harg3 : arg3.IsWhole) (arg4 : Memref sig .tc .vmem S8x128 .f32) (harg4 : arg4.IsWhole) (arg5 : Memref sig .tc .vmem S8x2 .i32) (harg5 : arg5.IsWhole) (arg6 : Memref sig .tc .vmem S8x128 .f32) (harg6 : arg6.IsWhole) (hc0 : k0_cond1 i = 1#1)
    (x0 : Vec F S4 .i32) (x1 : Vec F S2 .f32) (x2 : Vec F S8x100000 .f32) (x3 : Vec F S8x128 .f32) :
    Σ' (s : Vec F S8x2 .i32), { b : Vec F S8x128 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare s ∗ owns (c : Thread nD τ) arg6 fullShare b) -∗ K ⟨⟩))
          ⊢ wp frame (wpE (defs₀ (F := F)) Variants.none c none) E (cc0__sample_kernel i arg1 harg1 arg2 harg2 arg3 harg3 arg4 harg4 arg5 harg5 arg6 harg6) K } := by
  refine ⟨?_, ?_, fun E K => ?run⟩
  case run =>
    simp only [cc0__sample_kernel_eq_skeleton]; unfold cc0__sample_kernel_skel
    simp only [k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact read_store_whole (F := F) (S := S8x2) _ _ zero2 _ _
    iexists _; isplitr; swap; · iexact H5
    ipureintro
    exact read_store_whole (F := F) (S := S8x128) _ _ zero2 _ _

end Cert.KernelIdeal.Value

end
-- ==== Proof.KRun.lean ====
/-
  The launch of the kernel at its values: the samples' array gets each grid point's block of samples, the draws' array
  the one block the first point stores, which the output window keeps until the last point writes it back.
-/
module

public import proofs.«01_k».proof.Proof.KBody
public import Idealize.ShloMosaic.Lib.Pipeline.TableIdle
public import Idealize.ShloMosaic.Lib.Claim

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`. -/
abbrev ms0_0 (t : Fin cfg0.N) : Memref sig .tc .smem S4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x100000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x2 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)

/-- The inputs are idle at no point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- The body's branch is taken at the first point only. -/
theorem branch_iff : ∀ t : Fin cfg0.N, k0_cond1 (grid0.coords t) = 1#1 ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [k0_cond1, e0]
    word_cmp
   : ∀ t : Fin grid0.N, k0_cond1 (grid0.coords t) = 1#1 ↔ t.val % 128 = 0)

/-- The first point. -/
def t0 : Fin cfg0.N := ⟨0, by rw [show cfg0.N = 128 from N_0]; decide⟩

theorem branch_t0 : k0_cond1 (grid0.coords t0) = 1#1 := (branch_iff t0).mpr rfl

/-- The block of samples point `t` stores. -/
@[irreducible] def samp (c : Dev nD) (t : Fin cfg0.N) : Vec F S8x2 .i32 :=
  if h : k0_cond1 (grid0.coords t) = 1#1 then
    (runFirst c (grid0.coords t) (ms0_0 t) (hs0_0 t) (ms0_1 t) (hs0_1 t) (ms0_2 t) (hs0_2 t) (ms0_3 t) (hs0_3 t) (ms0_4 t) (hs0_4 t) (ms0_5 t) (hs0_5 t) h (iblk m c 0 t) (iblk m c 1 t) (iblk m c 2 t) (iblk m c 3 t)).1
  else
    (runRest c (grid0.coords t) (ms0_0 t) (hs0_0 t) (ms0_1 t) (hs0_1 t) (ms0_2 t) (hs0_2 t) (ms0_3 t) (hs0_3 t) (ms0_4 t) (hs0_4 t) (ms0_5 t) (hs0_5 t) h (iblk m c 0 t) (iblk m c 1 t) (iblk m c 2 t) (iblk m c 3 t)).1

/-- The block of draws the first point stores. -/
@[irreducible] def drawn (c : Dev nD) : Vec F S8x128 .f32 :=
  (runFirst c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) branch_t0 (iblk m c 0 t0) (iblk m c 1 t0) (iblk m c 2 t0) (iblk m c 3 t0)).2.1

/-- The arrays as the region finds them; each input's buffer at its block; the outputs at what the points store. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => samp m c t
    | ⟨5, _⟩ => drawn m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = samp m c t := by dsimp only [dats]
theorem after0_5 (c : Dev nD) (t : Fin cfg0.N) : (dats m 0 c).after 5 t = drawn m c := by dsimp only [dats]

/-- An input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The draws' window is idle where the branch is not taken. -/
theorem idle_draws (t : Fin cfg0.N) : cfg0.idle 5 (grid0.coords t) = !(k0_cond1 (grid0.coords t) == 1#1) := rfl

/-- After the first point the draws' buffer holds what the body stored there. -/
theorem fresh_draws : ∀ n, n < 127 → cfg0.fresh 5 (n + 1) = false
  | 0, _ => by
    have hN : 0 < cfg0.N := t0.isLt
    rw [Cfg.fresh_succ cfg0 5 0 hN]
    have hf : (cfg0.win 5).flush ⟨0, hN⟩ = false := Bool.eq_false_iff.mpr fun h => absurd ((flush0_5 _).mp h) (by show ¬ 0 % 128 = 127; decide)
    rw [hf, idle_draws, show k0_cond1 (grid0.coords ⟨0, hN⟩) = 1#1 from branch_t0]; rfl
  | n + 1, h => by
    have hN : n + 1 < cfg0.N := by rw [show cfg0.N = 128 from N_0]; omega
    rw [Cfg.fresh_succ cfg0 5 (n + 1) hN, fresh_draws n (by omega)]
    have hf : (cfg0.win 5).flush ⟨n + 1, hN⟩ = false :=
      Bool.eq_false_iff.mpr fun h' => absurd ((flush0_5 _).mp h') (by show ¬ (n + 1) % 128 = 127; omega)
    rw [hf, Bool.and_false]; rfl

/-- So at every later point its body finds the first point's draws. -/
theorem before0_5 (c : Dev nD) (t : Fin cfg0.N) (h : t.val ≠ 0) (d) : (dats m 0 c).before 5 t d = drawn m c := by
  have ht : t.val < 128 := lt_of_lt_of_eq t.isLt (show cfg0.N = 128 from N_0)
  have hf : cfg0.fresh 5 t.val = false := by
    obtain ⟨n, e⟩ := Nat.exists_eq_succ_of_ne_zero h
    rw [e]; exact fresh_draws n (by omega)
  rw [(dats m 0 c).before_out_traj 5 rfl (fun _ _ => rfl) (fun t _ _ _ => by rw [after0_5, after0_5]) t.val t rfl d,
    if_neg (by rw [hf]; exact Bool.false_ne_true), after0_5]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
        unfold Dat.leavesExact; rw [show cfg0.idle 4 (grid0.coords t) = false from rfl], after0_4]
  by_cases h0 : k0_cond1 (grid0.coords t) = 1#1
  · have e : t = t0 := Fin.ext (by have := (branch_iff t).mp h0; show t.val = 0; omega)
    subst e
    rw [show (dats m 0 c).leavesExact 5 t0 = owns (c : Thread nD τ) (ms0_5 t0) fullShare ((dats m 0 c).after 5 t0) from by
        unfold Dat.leavesExact; rw [show cfg0.idle 5 (grid0.coords t0) = false from by rw [idle_draws, h0]; rfl], after0_5]
    unfold samp drawn
    rw [dif_pos h0]
    iintro ⟨HΦ, Ho, ⟨%d0, H0⟩, ⟨%d1, H1⟩, ⟨%d2, H2⟩, ⟨%d3, H3⟩, ⟨%d4, H4⟩, ⟨%d5, H5⟩⟩
    iapply ((runFirst c (grid0.coords t0) _ _ _ _ _ _ _ _ _ _ _ _ h0 (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have hne : t.val ≠ 0 := fun e => h0 ((branch_iff t).mpr (by rw [e]))
    simp only [before0_5 m c t hne]
    have hl : owns (c : Thread nD τ) (ms0_5 t) fullShare (drawn m c) ⊢ (dats m 0 c).leavesExact 5 t := by
      unfold Dat.leavesExact
      rw [show cfg0.idle 5 (grid0.coords t) = true from by
        rw [idle_draws, show (k0_cond1 (grid0.coords t) == 1#1) = false from beq_eq_false_iff_ne.mpr h0]; rfl]
      cases (cfg0.win 5).flush t
      · simp only [before0_5 m c t hne]
        iintro H
        iexists (fun _ => (drawn m c) (Shape.Idx.first (s := S8x128) (by decide)))
        iexact H
      · rw [after0_5]
    unfold samp
    rw [dif_neg h0]
    iintro ⟨HΦ, Ho, ⟨%d0, H0⟩, ⟨%d1, H1⟩, ⟨%d2, H2⟩, ⟨%d3, H3⟩, ⟨%d4, H4⟩, ⟨%d5, H5⟩⟩
    iapply ((runRest c (grid0.coords t) _ _ _ _ _ _ _ _ _ _ _ _ h0 (iblk m c 0 t) (iblk m c 1 t) (iblk m c 2 t) (iblk m c 3 t)).2 (drawn m c) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply hl
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline at what the points wrote back, every other buffer as the host lines after
    the region leave it, and every semaphore at zero. -/
theorem run_main : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ))

end Cert.KernelIdeal.Value

end
-- ==== Proof.Words.lean ====
/-
  The counter-based generator and the perturbed logits, over vectors of any shape: the twenty rounds with their five
  key injections, the mantissa construction of a uniform number, and the value whose largest element is sampled.
-/
module

public import proofs.«01_k».proof.Defs

@[expose] public section

noncomputable section

namespace Cert.Proof

open Idealize.ShloMosaic

variable {F : FTy → Type} [FloatOps F]

/-- One round: add, rotate the second word left by `a` (`b = 32 − a`), combine. -/
def mixRound {s : Shape} (a b : BitVec 32) (p : IVec s 32 × IVec s 32) : IVec s 32 × IVec s 32 :=
  (addi p.1 p.2, xori (ori (shli p.2 (broadcast s a)) (shrui p.2 (broadcast s b))) (addi p.1 p.2))

/-- The four rounds of an even group, and of an odd one. -/
def roundsA {s : Shape} (p : IVec s 32 × IVec s 32) : IVec s 32 × IVec s 32 :=
  mixRound 6#32 26#32 (mixRound 26#32 6#32 (mixRound 15#32 17#32 (mixRound 13#32 19#32 p)))
def roundsB {s : Shape} (p : IVec s 32 × IVec s 32) : IVec s 32 × IVec s 32 :=
  mixRound 24#32 8#32 (mixRound 16#32 16#32 (mixRound 29#32 3#32 (mixRound 17#32 15#32 p)))

/-- A key injection. -/
def inject {s : Shape} (x y : BitVec 32) (p : IVec s 32 × IVec s 32) : IVec s 32 × IVec s 32 :=
  (addi p.1 (broadcast s x), addi p.2 (broadcast s y))

/-- The two words after the five groups, on key words `k0`, `k1`, `k2`, from the first word `k0` and the second `x`. -/
def words {s : Shape} (k0 k1 k2 : BitVec 32) (x : IVec s 32) : IVec s 32 × IVec s 32 :=
  inject k2 (Scalar.addi k0 5#32) (roundsA
    (inject k1 (Scalar.addi k2 4#32) (roundsB
      (inject k0 (Scalar.addi k1 3#32) (roundsA
        (inject k2 (Scalar.addi k0 2#32) (roundsB
          (inject k1 (Scalar.addi k2 1#32) (roundsA (broadcast s k0, x))))))))))

/-- The random bits. -/
def bits {s : Shape} (k0 k1 k2 : BitVec 32) (x : IVec s 32) : IVec s 32 :=
  xori (words k0 k1 k2 x).1 (words k0 k1 k2 x).2

/-- The float of `[1, 2)` whose mantissa is the top 23 bits, less one. -/
def unit01 {s : Shape} (b : IVec s 32) : FVec F s .f32 :=
  subf (bitcastToFloat .f32 (ori (shrui b (broadcast s 9#32)) (broadcast s 1065353216#32)))
    (broadcast s (Scalar.ofBits .f32 0x3F800000#32))

/-- The perturbed logits: `l − log (−log (max(tiny, u)))`. -/
def perturbed {s : Shape} (k0 k1 k2 : BitVec 32) (l : FVec F s .f32) (x : IVec s 32) : FVec F s .f32 :=
  subf l (log (subf (broadcast s (Scalar.ofBits .f32 0x00000000#32))
    (log (maximumf (broadcast s (Scalar.ofBits .f32 0x00800000#32)) (unit01 (bits k0 k1 k2 x))))))

/-- Of two candidates (value, index) lane by lane, the second where its value is strictly greater, else the first. -/
def better {s : Shape} (p q : FVec F s .f32 × IVec s 32) : FVec F s .f32 × IVec s 32 :=
  (select (cmpf .ogt q.1 p.1) q.1 p.1, select (cmpf .ogt q.1 p.1) q.2 p.2)

/-- The tournament over eight. -/
def best8 {s : Shape} (p0 p1 p2 p3 p4 p5 p6 p7 : FVec F s .f32 × IVec s 32) : FVec F s .f32 × IVec s 32 :=
  better (better (better p0 p1) (better p2 p3)) (better (better p4 p5) (better p6 p7))

end Cert.Proof

end
-- ==== Proof.Trip.lean ====
/-
  One trip of the kernel's loop: eight blocks of columns, each perturbed with the bits at its counters, a tournament in
  each lane, and the winner against the carried candidate.
-/
module

public import proofs.«01_k».proof.Proof.Words
public import proofs.«01_k».proof.Proof.Gen.KernelIdeal.Loops

@[expose] public section

set_option maxRecDepth 16384

noncomputable section

namespace Cert.KernelIdeal.Value

open Cert.KernelIdeal.Gen Cert.Proof
open Idealize.ShloMosaic Idealize.ShloMosaic.TcCoe Idealize.ShloMosaic.Tactic

variable {F : FTy → Type} [FloatOps F]

/-- What the loop carries: the counters of the trip's first block, and for each of the two draws the best value and the
    number of the block it came from. -/
abbrev Carry (F : FTy → Type) := IVec S8x1024 32 × FVec F S8x1024 .f32 × IVec S8x1024 32 × FVec F S8x1024 .f32 × IVec S8x1024 32

/-- Block `u` of a trip for the first draw: its values and its number. -/
def cand0 (t : F .f32) (k0 k1 k2 : BitVec 32) (j : BitVec 32) (x : IVec S8x1024 32) (u w : BitVec 32) (l : FVec F S8x1024 .f32) :
    FVec F S8x1024 .f32 × IVec S8x1024 32 :=
  (perturbed k0 k1 k2 (mulf l (broadcast S8x1024 t)) (addi x (broadcast S8x1024 w)), broadcast S8x1024 (Scalar.addi j u))

/-- The same for the second draw, whose counters lie one slab further. -/
def cand1 (t : F .f32) (k0 k1 k2 : BitVec 32) (j : BitVec 32) (x : IVec S8x1024 32) (u w : BitVec 32) (l : FVec F S8x1024 .f32) :
    FVec F S8x1024 .f32 × IVec S8x1024 32 :=
  (perturbed k0 k1 k2 (mulf l (broadcast S8x1024 t)) (addi (addi x (broadcast S8x1024 w)) (broadcast S8x1024 102400000#32)),
    broadcast S8x1024 (Scalar.addi j u))

/-- A trip on the eight blocks of logits. -/
def tripVal (t : F .f32) (k0 k1 k2 : BitVec 32) (j : BitVec 32) (l0 l1 l2 l3 l4 l5 l6 l7 : FVec F S8x1024 .f32) (a : Carry F) : Carry F :=
  let p := better (a.2.1, a.2.2.1)
    (best8 (cand0 t k0 k1 k2 j a.1 0#32 0#32 l0) (cand0 t k0 k1 k2 j a.1 1#32 1024#32 l1) (cand0 t k0 k1 k2 j a.1 2#32 2048#32 l2)
      (cand0 t k0 k1 k2 j a.1 3#32 3072#32 l3) (cand0 t k0 k1 k2 j a.1 4#32 4096#32 l4) (cand0 t k0 k1 k2 j a.1 5#32 5120#32 l5)
      (cand0 t k0 k1 k2 j a.1 6#32 6144#32 l6) (cand0 t k0 k1 k2 j a.1 7#32 7168#32 l7))
  let q := better (a.2.2.2.1, a.2.2.2.2)
    (best8 (cand1 t k0 k1 k2 j a.1 0#32 0#32 l0) (cand1 t k0 k1 k2 j a.1 1#32 1024#32 l1) (cand1 t k0 k1 k2 j a.1 2#32 2048#32 l2)
      (cand1 t k0 k1 k2 j a.1 3#32 3072#32 l3) (cand1 t k0 k1 k2 j a.1 4#32 4096#32 l4) (cand1 t k0 k1 k2 j a.1 5#32 5120#32 l5)
      (cand1 t k0 k1 k2 j a.1 6#32 6144#32 l6) (cand1 t k0 k1 k2 j a.1 7#32 7168#32 l7))
  (addi a.1 (broadcast S8x1024 8192#32), p.1, p.2, q.1, q.2)

/-- The block of logits a trip loads at block `u`. -/
abbrev blockAt (arg3 : Memref sig .tc .vmem S8x100000 .f32) (X : BufTy.Contents (Elt F) arg3.view.ty) (k : Fin k0_t1_loop.trips) (u : Fin 8) :
    FVec F S8x1024 .f32 :=
  View.readAt (Elt F) arg3.view (Rect.unit (s := S8x100000) (k0_off1 k (BitVec.ofNat 32 u.val)) S8x1024.size (k0_off1_inb k u)).toLoadRect X

set_option maxHeartbeats 4000000 in
/-- The trip's found result is `tripVal` of the loaded blocks. -/
theorem trip_eq_of (𝒱 : Variants) (c : Dev nD) (bd : Option 𝒱.V) (i : grid0.Coords) (arg1 : Memref sig .tc .smem S4 .i32) (harg1 : arg1.IsWhole) (arg2 : Memref sig .tc .smem S2 .f32) (harg2 : arg2.IsWhole) (arg3 : Memref sig .tc .vmem S8x100000 .f32) (harg3 : arg3.IsWhole) (arg4 : Memref sig .tc .vmem S8x128 .f32) (harg4 : arg4.IsWhole) (arg5 : Memref sig .tc .vmem S8x2 .i32) (harg5 : arg5.IsWhole) (arg6 : Memref sig .tc .vmem S8x128 .f32) (harg6 : arg6.IsWhole) (v0 : Elt F .f32) (v1 : Elt F .i32) (v2 : Elt F .i32) (v4 : BitVec 32)
    (X : BufTy.Contents (Elt F) arg3.view.ty) (k : Fin k0_t1_loop.trips) (a : Carry F) (j : BitVec 32)
    (hj : Scalar.muli (Scf.iv 0#32 1#32 k) 8#32 = j) (l0 l1 l2 l3 l4 l5 l6 l7 : FVec F S8x1024 .f32)
    (h0 : View.readAt (Elt F) arg3.view (Rect.unit (s := S8x100000) (k0_off1 k 0#32) S8x1024.size (k0_off1_inb k 0)).toLoadRect X = l0)
    (h1 : View.readAt (Elt F) arg3.view (Rect.unit (s := S8x100000) (k0_off1 k 1#32) S8x1024.size (k0_off1_inb k 1)).toLoadRect X = l1)
    (h2 : View.readAt (Elt F) arg3.view (Rect.unit (s := S8x100000) (k0_off1 k 2#32) S8x1024.size (k0_off1_inb k 2)).toLoadRect X = l2)
    (h3 : View.readAt (Elt F) arg3.view (Rect.unit (s := S8x100000) (k0_off1 k 3#32) S8x1024.size (k0_off1_inb k 3)).toLoadRect X = l3)
    (h4 : View.readAt (Elt F) arg3.view (Rect.unit (s := S8x100000) (k0_off1 k 4#32) S8x1024.size (k0_off1_inb k 4)).toLoadRect X = l4)
    (h5 : View.readAt (Elt F) arg3.view (Rect.unit (s := S8x100000) (k0_off1 k 5#32) S8x1024.size (k0_off1_inb k 5)).toLoadRect X = l5)
    (h6 : View.readAt (Elt F) arg3.view (Rect.unit (s := S8x100000) (k0_off1 k 6#32) S8x1024.size (k0_off1_inb k 6)).toLoadRect X = l6)
    (h7 : View.readAt (Elt F) arg3.view (Rect.unit (s := S8x100000) (k0_off1 k 7#32) S8x1024.size (k0_off1_inb k 7)).toLoadRect X = l7) :
    tripR_k0_t1 𝒱 c bd i arg1 harg1 arg2 harg2 arg3 harg3 arg4 harg4 arg5 harg5 arg6 harg6 v0 v1 v2 v4 X k a
      = tripVal v0 v1 v2 v4 j l0 l1 l2 l3 l4 l5 l6 l7 a := by
  unfold tripR_k0_t1 trip_k0_t1
  dsimp only
  iterate 12 sl_unfold_run_names
  simp only [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150,
      k0_pay151, k0_pay152, k0_pay153, k0_pay154, k0_pay155, k0_pay156, k0_pay157, k0_pay158, k0_pay159, k0_pay160,
      k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180,
      k0_pay181, k0_pay182, k0_pay183, k0_pay184, k0_pay185, k0_pay186, k0_pay187, k0_pay188, k0_pay189, k0_pay190,
      k0_pay191, k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209, k0_pay210,
      k0_pay211, k0_pay212, k0_pay213, k0_pay214, k0_pay215, k0_pay216, k0_pay217, k0_pay218, k0_pay219, k0_pay220,
      k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240,
      k0_pay241, k0_pay242, k0_pay243, k0_pay244, k0_pay245, k0_pay246, k0_pay247, k0_pay248, k0_pay249, k0_pay250,
      k0_pay251, k0_pay252, k0_pay253, k0_pay254, k0_pay255, k0_pay256, k0_pay257, k0_pay258, k0_pay259, k0_pay260,
      k0_pay261, k0_pay262, k0_pay263, k0_pay264, k0_pay265, k0_pay266, k0_pay267, k0_pay268, k0_pay269, k0_pay270,
      k0_pay271, k0_pay272, k0_pay273, k0_pay274, k0_pay275, k0_pay276, k0_pay277, k0_pay278, k0_pay279, k0_pay280,
      k0_pay281, k0_pay282, k0_pay283, k0_pay284, k0_pay285, k0_pay286, k0_pay287, k0_pay288, k0_pay289, k0_pay290,
      k0_pay291, k0_pay292, k0_pay293, k0_pay294, k0_pay295, k0_pay296, k0_pay297, k0_pay298, k0_pay299, k0_pay300,
      k0_pay301, k0_pay302, k0_pay303, k0_pay304, k0_pay305, k0_pay306, k0_pay307, k0_pay308, k0_pay309, k0_pay310,
      k0_pay311, k0_pay312, k0_pay313, k0_pay314, k0_pay315, k0_pay316, k0_pay317, k0_pay318, k0_pay319, k0_pay320,
      k0_pay321, k0_pay322, k0_pay323, k0_pay324, k0_pay325, k0_pay326, k0_pay327, k0_pay328, k0_pay329, k0_pay330,
      k0_pay331, k0_pay332, k0_pay333, k0_pay334, k0_pay335, k0_pay336, k0_pay337, k0_pay338, k0_pay339, k0_pay340,
      k0_pay341, k0_pay342, k0_pay343, k0_pay344, k0_pay345, k0_pay346, k0_pay347, k0_pay348, k0_pay349, k0_pay350,
      k0_pay351, k0_pay352, k0_pay353, k0_pay354, k0_pay355, k0_pay356, k0_pay357, k0_pay358, k0_pay359, k0_pay360,
      k0_pay361, k0_pay362, k0_pay363, k0_pay364, k0_pay365, k0_pay366, k0_pay367, k0_pay368, k0_pay369, k0_pay370,
      k0_pay371, k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389, k0_pay390,
      k0_pay391, k0_pay392, k0_pay393, k0_pay394, k0_pay395, k0_pay396, k0_pay397, k0_pay398, k0_pay399, k0_pay400,
      k0_pay401, k0_pay402, k0_pay403, k0_pay404, k0_pay405, k0_pay406, k0_pay407, k0_pay408, k0_pay409, k0_pay410,
      k0_pay411, k0_pay412, k0_pay413, k0_pay414, k0_pay415, k0_pay416, k0_pay417, k0_pay418, k0_pay419, k0_pay420,
      k0_pay421, k0_pay422, k0_pay423, k0_pay424, k0_pay425, k0_pay426, k0_pay427, k0_pay428, k0_pay429, k0_pay430,
      k0_pay431, k0_pay432, k0_pay433, k0_pay434, k0_pay435, k0_pay436, k0_pay437, k0_pay438, k0_pay439, k0_pay440,
      k0_pay441, k0_pay442, k0_pay443, k0_pay444, k0_pay445, k0_pay446, k0_pay447, k0_pay448, k0_pay449, k0_pay450,
      k0_pay451, k0_pay452, k0_pay453, k0_pay454, k0_pay455, k0_pay456, k0_pay457, k0_pay458, k0_pay459, k0_pay460,
      k0_pay461, k0_pay462, k0_pay463, k0_pay464, k0_pay465, k0_pay466, k0_pay467, k0_pay468, k0_pay469, k0_pay470,
      k0_pay471, k0_pay472, k0_pay473, k0_pay474, k0_pay475, k0_pay476, k0_pay477, k0_pay478, k0_pay479, k0_pay480,
      k0_pay481, k0_pay482, k0_pay483, k0_pay484, k0_pay485, k0_pay486, k0_pay487, k0_pay488, k0_pay489, k0_pay490,
      k0_pay491, k0_pay492, k0_pay493, k0_pay494, k0_pay495, k0_pay496, k0_pay497, k0_pay498, k0_pay499, k0_pay500,
      k0_pay501, k0_pay502, k0_pay503, k0_pay504, k0_pay505, k0_pay506, k0_pay507, k0_pay508, k0_pay509, k0_pay510,
      k0_pay511, k0_pay512, k0_pay513, k0_pay514, k0_pay515, k0_pay516, k0_pay517, k0_pay518, k0_pay519, k0_pay520,
      k0_pay521, k0_pay522, k0_pay523, k0_pay524, k0_pay525, k0_pay526, k0_pay527, k0_pay528, k0_pay529, k0_pay530,
      k0_pay531, k0_pay532, k0_pay533, k0_pay534, k0_pay535, k0_pay536, k0_pay537, k0_pay538, k0_pay539, k0_pay540,
      k0_pay541, k0_pay542, k0_pay543, k0_pay544, k0_pay545, k0_pay546, k0_pay547, k0_pay548, k0_pay549, k0_pay550,
      k0_pay551, k0_pay552, k0_pay553, k0_pay554, k0_pay555, k0_pay556, k0_pay557, k0_pay558, k0_pay559, k0_pay560,
      k0_pay561, k0_pay562, k0_pay563, k0_pay564, k0_pay565, k0_pay566, k0_pay567, k0_pay568, k0_pay569, k0_pay570,
      k0_pay571, k0_pay572, k0_pay573, k0_pay574, k0_pay575, k0_pay576, k0_pay577, k0_pay578, k0_pay579, k0_pay580,
      k0_pay581, k0_pay582, k0_pay583, k0_pay584, k0_pay585, k0_pay586, k0_pay587, k0_pay588, k0_pay589, k0_pay590,
      k0_pay591, k0_pay592, k0_pay593, k0_pay594, k0_pay595, k0_pay596, k0_pay597, k0_pay598, k0_pay599, k0_pay600,
      k0_pay601, k0_pay602, k0_pay603, k0_pay604, k0_pay605, k0_pay606, k0_pay607, k0_pay608, k0_pay609, k0_pay610,
      k0_pay611, k0_pay612, k0_pay613, k0_pay614, k0_pay615, k0_pay616, k0_pay617, k0_pay618, k0_pay619, k0_pay620,
      k0_pay621, k0_pay622, k0_pay623, k0_pay624, k0_pay625, k0_pay626, k0_pay627, k0_pay628, k0_pay629, k0_pay630,
      k0_pay631, k0_pay632, k0_pay633, k0_pay634, k0_pay635, k0_pay636, k0_pay637, k0_pay638, k0_pay639, k0_pay640,
      k0_pay641, k0_pay642, k0_pay643, k0_pay644, k0_pay645, k0_pay646, k0_pay647, k0_pay648, k0_pay649, k0_pay650,
      k0_pay651, k0_pay652, k0_pay653, k0_pay654, k0_pay655, k0_pay656, k0_pay657, k0_pay658, k0_pay659, k0_pay660,
      k0_pay661, k0_pay662, k0_pay663, k0_pay664, k0_pay665, k0_pay666, k0_pay667, k0_pay668, k0_pay669, k0_pay670,
      k0_pay671, k0_pay672, k0_pay673, k0_pay674, k0_pay675, k0_pay676, k0_pay677, k0_pay678, k0_pay679, k0_pay680,
      k0_pay681, k0_pay682, k0_pay683, k0_pay684, k0_pay685, k0_pay686, k0_pay687, k0_pay688, k0_pay689, k0_pay690,
      k0_pay691, k0_pay692, k0_pay693,
      tripVal, best8, better, cand0, cand1, perturbed, unit01, bits, words, inject, roundsA, roundsB, mixRound, hj, h0, h1, h2, h3, h4, h5, h6, h7]

theorem trip_eq (𝒱 : Variants) (c : Dev nD) (bd : Option 𝒱.V) (i : grid0.Coords) (arg1 : Memref sig .tc .smem S4 .i32) (harg1 : arg1.IsWhole) (arg2 : Memref sig .tc .smem S2 .f32) (harg2 : arg2.IsWhole) (arg3 : Memref sig .tc .vmem S8x100000 .f32) (harg3 : arg3.IsWhole) (arg4 : Memref sig .tc .vmem S8x128 .f32) (harg4 : arg4.IsWhole) (arg5 : Memref sig .tc .vmem S8x2 .i32) (harg5 : arg5.IsWhole) (arg6 : Memref sig .tc .vmem S8x128 .f32) (harg6 : arg6.IsWhole) (v0 : Elt F .f32) (v1 : Elt F .i32) (v2 : Elt F .i32) (v4 : BitVec 32)
    (X : BufTy.Contents (Elt F) arg3.view.ty) (k : Fin k0_t1_loop.trips) (a : Carry F) :
    tripR_k0_t1 𝒱 c bd i arg1 harg1 arg2 harg2 arg3 harg3 arg4 harg4 arg5 harg5 arg6 harg6 v0 v1 v2 v4 X k a
      = tripVal v0 v1 v2 v4 (Scalar.muli (Scf.iv 0#32 1#32 k) 8#32) (blockAt arg3 X k 0) (blockAt arg3 X k 1) (blockAt arg3 X k 2)
          (blockAt arg3 X k 3) (blockAt arg3 X k 4) (blockAt arg3 X k 5) (blockAt arg3 X k 6) (blockAt arg3 X k 7) a :=
  trip_eq_of 𝒱 c bd i arg1 harg1 arg2 harg2 arg3 harg3 arg4 harg4 arg5 harg5 arg6 harg6 v0 v1 v2 v4 X k a _ rfl _ _ _ _ _ _ _ _
    rfl rfl rfl rfl rfl rfl rfl rfl

end Cert.KernelIdeal.Value

end
-- ==== Proof.Block.lean ====
/-
  What one grid point stores: the two columns of samples, each the column of the largest perturbed logit of the loop's
  lanes, of the block after them and of the tail, taken in that order; and at the first point the Bernoulli draws.
-/
module

public import proofs.«01_k».proof.Proof.Words
public import proofs.«01_k».proof.Proof.KBody

@[expose] public section

set_option maxRecDepth 16384

noncomputable section

namespace Cert.KernelIdeal.Value

open Cert.KernelIdeal.Gen Cert.Proof
open Idealize.ShloMosaic Idealize.ShloMosaic.TcCoe Idealize.ShloMosaic.Tactic

variable {F : FTy → Type} [FloatOps F]

/-- The counter of column 0 of each of a point's eight rows, with the second key word added. -/
def rowBase (i : grid0.Coords) (k1 : BitVec 32) : IVec S8x1 32 :=
  addi (muli (addi (iota .tc S8x1 32 [0] iota_S8x1_d0_w32) (broadcast S8x1 (Scalar.muli (BitVec.ofNat 32 (i 0).val) 8#32)))
    (broadcast S8x1 100000#32)) (broadcast S8x1 k1)

/-- The counters of the first 1024 columns, and of the last 672 less their offset. -/
def counters (i : grid0.Coords) (k1 : BitVec 32) : IVec S8x1024 32 :=
  addi (broadcastTo S8x1024 (rowBase i k1) broadcasts_S8x1_S8x1024) (iota .tc S8x1024 32 [1] iota_S8x1024_d1_w32)
def countersT (i : grid0.Coords) (k1 : BitVec 32) : IVec S8x672 32 :=
  addi (broadcastTo S8x672 (rowBase i k1) broadcasts_S8x1_S8x672) (iota .tc S8x672 32 [1] iota_S8x672_d1_w32)

/-- The largest value of each row. -/
def top (v : FVec F S8x1024 .f32) : FVec F S8x1 .f32 :=
  shapeCast S8x1 (multiReduction .maximumf [1] S8 v 0xFF800000#32 reduces_S8x1024_S8 (.inl rfl) rfl) shapeCasts_S8_S8x1
def topT (v : FVec F S8x672 .f32) : FVec F S8x1 .f32 :=
  shapeCast S8x1 (multiReduction .maximumf [1] S8 v 0xFF800000#32 reduces_S8x672_S8 (.inl rfl) rfl) shapeCasts_S8_S8x1

/-- The least index among the lanes holding the largest value of their row. -/
def firstAt (v : FVec F S8x1024 .f32) (x : IVec S8x1024 32) : IVec S8 32 :=
  multiReductionI .minsi [1] S8 (select (cmpf .oeq v (broadcastTo S8x1024 (top v) broadcasts_S8x1_S8x1024)) x (broadcast S8x1024 2147483647#32))
    2147483647#32 reduces_S8x1024_S8 rfl
def firstAtT (v : FVec F S8x672 .f32) (x : IVec S8x672 32) : IVec S8 32 :=
  multiReductionI .minsi [1] S8 (select (cmpf .oeq v (broadcastTo S8x672 (topT v) broadcasts_S8x1_S8x672)) x (broadcast S8x672 2147483647#32))
    2147483647#32 reduces_S8x672_S8 rfl

/-- The index of the best of three parts: the third over the second, and that over the first, where strictly greater. -/
def pick (m : FVec F S8x1 .f32) (im : IVec S8 32) (x : FVec F S8x1 .f32) (ix : IVec S8 32) (t : FVec F S8x1 .f32) (it : IVec S8 32) : IVec S8 32 :=
  select (cmpf .ogt (select (cmpf .ogt (shapeCast S8 t shapeCasts_S8x1_S8) (shapeCast S8 x shapeCasts_S8x1_S8))
      (shapeCast S8 t shapeCasts_S8x1_S8) (shapeCast S8 x shapeCasts_S8x1_S8)) (shapeCast S8 m shapeCasts_S8x1_S8))
    (select (cmpf .ogt (shapeCast S8 t shapeCasts_S8x1_S8) (shapeCast S8 x shapeCasts_S8x1_S8)) it ix) im

/-- A column of samples, from the loop's lanes `vm` with their block numbers `jm`, the block `vx` and the tail `vt`. -/
def column (vm : FVec F S8x1024 .f32) (jm : IVec S8x1024 32) (vx : FVec F S8x1024 .f32) (vt : FVec F S8x672 .f32) : IVec S8 32 :=
  pick (top vm) (firstAt vm (addi (muli jm (broadcast S8x1024 1024#32)) (iota .tc S8x1024 32 [1] iota_S8x1024_d1_w32)))
    (top vx) (firstAt vx (addi (iota .tc S8x1024 32 [1] iota_S8x1024_d1_w32) (broadcast S8x1024 98304#32)))
    (topT vt) (firstAtT vt (addi (iota .tc S8x672 32 [1] iota_S8x672_d1_w32) (broadcast S8x672 99328#32)))

/-- The stored block of samples. -/
def samplesVal (i : grid0.Coords) (t : F .f32) (k0 k1 k2 : BitVec 32) (a : IVec S8x1024 32 × FVec F S8x1024 .f32 × IVec S8x1024 32 × FVec F S8x1024 .f32 × IVec S8x1024 32)
    (lx : FVec F S8x1024 .f32) (lt : FVec F S8x672 .f32) : IVec S8x2 32 :=
  concatenate S8x2 1 [⟨S8x1, shapeCast S8x1 (column a.2.1 a.2.2.1
        (perturbed k0 k1 k2 (mulf lx (broadcast S8x1024 t)) (addi (counters i k1) (broadcast S8x1024 98304#32)))
        (perturbed k0 k1 k2 (mulf lt (broadcast S8x672 t)) (addi (countersT i k1) (broadcast S8x672 99328#32)))) shapeCasts_S8_S8x1⟩,
      ⟨S8x1, shapeCast S8x1 (column a.2.2.2.1 a.2.2.2.2
        (perturbed k0 k1 k2 (mulf lx (broadcast S8x1024 t)) (addi (addi (counters i k1) (broadcast S8x1024 98304#32)) (broadcast S8x1024 102400000#32)))
        (perturbed k0 k1 k2 (mulf lt (broadcast S8x672 t)) (addi (addi (countersT i k1) (broadcast S8x672 99328#32)) (broadcast S8x672 102400000#32)))) shapeCasts_S8_S8x1⟩]
    concatenates_S8x1_S8x1_S8x2_d1

/-- The stored block of Bernoulli draws. -/
def bernVal (t : F .f32) (k0 k1 k2 : BitVec 32) (l : FVec F S8x128 .f32) : FVec F S8x128 .f32 :=
  sitofp .f32 (extui 32 (cmpf .olt
    (unit01 (bits k0 k1 k2 (addi (addi (muli (iota .tc S8x128 32 [0] iota_S8x128_d0_w32) (broadcast S8x128 128#32))
      (iota .tc S8x128 32 [1] iota_S8x128_d1_w32)) (broadcast S8x128 k1))))
    (logistic (mulf (shapeCast S8x128 l shapeCasts_S8x128_S8x128) (broadcast S8x128 t)))) natLt_1_32)

/-- The third key word. -/
abbrev key2 (k0 k1 : BitVec 32) : BitVec 32 := Scalar.xori (Scalar.xori k0 k1) 466688986#32

/-- What the loop starts from. -/
def carry0 (i : grid0.Coords) (k1 : BitVec 32) : IVec S8x1024 32 × FVec F S8x1024 .f32 × IVec S8x1024 32 × FVec F S8x1024 .f32 × IVec S8x1024 32 :=
  (counters i k1, broadcast S8x1024 (Scalar.ofBits .f32 0xFF800000#32), broadcast S8x1024 0#32,
    broadcast S8x1024 (Scalar.ofBits .f32 0xFF800000#32), broadcast S8x1024 0#32)

set_option maxHeartbeats 4000000 in
/-- The samples at a point other than the first. -/
theorem runRest_samples (c : Dev nD) (i : grid0.Coords) (arg1 : Memref sig .tc .smem S4 .i32) (harg1 : arg1.IsWhole) (arg2 : Memref sig .tc .smem S2 .f32) (harg2 : arg2.IsWhole) (arg3 : Memref sig .tc .vmem S8x100000 .f32) (harg3 : arg3.IsWhole) (arg4 : Memref sig .tc .vmem S8x128 .f32) (harg4 : arg4.IsWhole) (arg5 : Memref sig .tc .vmem S8x2 .i32) (harg5 : arg5.IsWhole) (arg6 : Memref sig .tc .vmem S8x128 .f32) (harg6 : arg6.IsWhole) (hc0 : ¬ k0_cond1 i = 1#1) (x0 : Vec F S4 .i32) (x1 : Vec F S2 .f32) (x2 : Vec F S8x100000 .f32) (x3 : Vec F S8x128 .f32)
    (k0 k1 : BitVec 32) (t : F .f32) (lx : FVec F S8x1024 .f32) (lt : FVec F S8x672 .f32)
    (hk0 : View.readAt (Elt F) arg1.view (Rect.unit (s := S4) ![0] S1.size inb_S4_S1_0).toLoadRect (harg1.unread x0) (Shape.Idx.first (s := (Rect.unit (s := S4) ![0] S1.size inb_S4_S1_0).shape) (numel1_S1.symm ▸ Nat.one_pos)) = k0)
    (hk1 : View.readAt (Elt F) arg1.view (Rect.unit (s := S4) ![1] S1.size inb_S4_S1_1).toLoadRect (harg1.unread x0) (Shape.Idx.first (s := (Rect.unit (s := S4) ![1] S1.size inb_S4_S1_1).shape) (numel1_S1.symm ▸ Nat.one_pos)) = k1)
    (ht : View.readAt (Elt F) arg2.view (Rect.unit (s := S2) ![0] S1.size inb_S2_S1_0).toLoadRect (harg2.unread x1) (Shape.Idx.first (s := (Rect.unit (s := S2) ![0] S1.size inb_S2_S1_0).shape) (numel1_S1.symm ▸ Nat.one_pos)) = t)
    (hx : View.readAt (Elt F) arg3.view (Rect.unit (s := S8x100000) ![0, 98304] S8x1024.size inb_S8x100000_S8x1024_0_98304).toLoadRect (harg3.unread x2) = lx)
    (hl : View.readAt (Elt F) arg3.view (Rect.unit (s := S8x100000) ![0, 99328] S8x672.size inb_S8x100000_S8x672_0_99328).toLoadRect (harg3.unread x2) = lt) :
    (runRest c i arg1 harg1 arg2 harg2 arg3 harg3 arg4 harg4 arg5 harg5 arg6 harg6 hc0 x0 x1 x2 x3).1
      = samplesVal i t k0 k1 (key2 k0 k1) (st_k0_t1 Variants.none c none i arg1 harg1 arg2 harg2 arg3 harg3 arg4 harg4 arg5 harg5 arg6 harg6 t k0 k1 (key2 k0 k1) (harg3.unread x2) (carry0 i k1) k0_t1_loop.trips) lx lt := by
  unfold runRest
  dsimp only
  iterate 12 sl_unfold_run_names
  rw [hx, hl, ht, hk1, hk0]
  simp only [k0_pay1,
      k0_pay677, k0_pay678, k0_pay679, k0_pay680,
      k0_pay694, k0_pay695, k0_pay696, k0_pay697, k0_pay698, k0_pay699, k0_pay700, k0_pay701, k0_pay702, k0_pay703,
      k0_pay704, k0_pay705, k0_pay706, k0_pay707, k0_pay708, k0_pay709, k0_pay710, k0_pay711, k0_pay712, k0_pay713,
      k0_pay714, k0_pay715, k0_pay716, k0_pay717, k0_pay718, k0_pay719, k0_pay720, k0_pay721, k0_pay722, k0_pay723,
      k0_pay724, k0_pay725, k0_pay726, k0_pay727, k0_pay728, k0_pay729, k0_pay730, k0_pay731, k0_pay732, k0_pay733,
      k0_pay734, k0_pay735, k0_pay736, k0_pay737, k0_pay738, k0_pay739, k0_pay740, k0_pay741, k0_pay742, k0_pay743,
      k0_pay744, k0_pay745, k0_pay746, k0_pay747, k0_pay748, k0_pay749, k0_pay750, k0_pay751, k0_pay752, k0_pay753,
      k0_pay754, k0_pay755, k0_pay756, k0_pay757, k0_pay758, k0_pay759, k0_pay760, k0_pay761, k0_pay762, k0_pay763,
      k0_pay764, k0_pay765, k0_pay766, k0_pay767, k0_pay768, k0_pay769, k0_pay770, k0_pay771, k0_pay772, k0_pay773,
      k0_pay774, k0_pay775, k0_pay776, k0_pay777, k0_pay778, k0_pay779, k0_pay780, k0_pay781, k0_pay782, k0_pay783,
      k0_pay784, k0_pay785, k0_pay786, k0_pay787, k0_pay788, k0_pay789, k0_pay790, k0_pay791, k0_pay792, k0_pay793,
      k0_pay794, k0_pay795, k0_pay796, k0_pay797, k0_pay798, k0_pay799, k0_pay800, k0_pay801, k0_pay802, k0_pay803,
      k0_pay804, k0_pay805, k0_pay806, k0_pay807, k0_pay808, k0_pay809, k0_pay810, k0_pay811, k0_pay812, k0_pay813,
      k0_pay814, k0_pay815, k0_pay816, k0_pay817, k0_pay818, k0_pay819, k0_pay820, k0_pay821, k0_pay822, k0_pay823,
      k0_pay824, k0_pay825, k0_pay826, k0_pay827, k0_pay828, k0_pay829, k0_pay830, k0_pay831, k0_pay832, k0_pay833,
      k0_pay834, k0_pay835, k0_pay836, k0_pay837, k0_pay838, k0_pay839, k0_pay840, k0_pay841, k0_pay842, k0_pay843,
      k0_pay844, k0_pay845, k0_pay846, k0_pay847, k0_pay848, k0_pay849, k0_pay850, k0_pay851, k0_pay852, k0_pay853,
      k0_pay854, k0_pay855, k0_pay856, k0_pay857, k0_pay858, k0_pay859, k0_pay860, k0_pay861, k0_pay862, k0_pay863,
      k0_pay864, k0_pay865, k0_pay866, k0_pay867, k0_pay868, k0_pay869, k0_pay870, k0_pay871, k0_pay872, k0_pay873,
      k0_pay874, k0_pay875, k0_pay876, k0_pay877, k0_pay878, k0_pay879, k0_pay880, k0_pay881, k0_pay882, k0_pay883,
      k0_pay884, k0_pay885, k0_pay886, k0_pay887, k0_pay888, k0_pay889, k0_pay890,
      samplesVal, column, pick, firstAt, firstAtT, top, topT, counters, countersT, rowBase, carry0, key2, perturbed, unit01, bits, words, inject,
      roundsA, roundsB, mixRound]

set_option maxHeartbeats 4000000 in
/-- The samples at the first point. -/
theorem runFirst_samples (c : Dev nD) (i : grid0.Coords) (arg1 : Memref sig .tc .smem S4 .i32) (harg1 : arg1.IsWhole) (arg2 : Memref sig .tc .smem S2 .f32) (harg2 : arg2.IsWhole) (arg3 : Memref sig .tc .vmem S8x100000 .f32) (harg3 : arg3.IsWhole) (arg4 : Memref sig .tc .vmem S8x128 .f32) (harg4 : arg4.IsWhole) (arg5 : Memref sig .tc .vmem S8x2 .i32) (harg5 : arg5.IsWhole) (arg6 : Memref sig .tc .vmem S8x128 .f32) (harg6 : arg6.IsWhole) (hc0 : k0_cond1 i = 1#1) (x0 : Vec F S4 .i32) (x1 : Vec F S2 .f32) (x2 : Vec F S8x100000 .f32) (x3 : Vec F S8x128 .f32)
    (k0 k1 : BitVec 32) (t : F .f32) (lx : FVec F S8x1024 .f32) (lt : FVec F S8x672 .f32)
    (hk0 : View.readAt (Elt F) arg1.view (Rect.unit (s := S4) ![0] S1.size inb_S4_S1_0).toLoadRect (harg1.unread x0) (Shape.Idx.first (s := (Rect.unit (s := S4) ![0] S1.size inb_S4_S1_0).shape) (numel1_S1.symm ▸ Nat.one_pos)) = k0)
    (hk1 : View.readAt (Elt F) arg1.view (Rect.unit (s := S4) ![1] S1.size inb_S4_S1_1).toLoadRect (harg1.unread x0) (Shape.Idx.first (s := (Rect.unit (s := S4) ![1] S1.size inb_S4_S1_1).shape) (numel1_S1.symm ▸ Nat.one_pos)) = k1)
    (ht : View.readAt (Elt F) arg2.view (Rect.unit (s := S2) ![0] S1.size inb_S2_S1_0).toLoadRect (harg2.unread x1) (Shape.Idx.first (s := (Rect.unit (s := S2) ![0] S1.size inb_S2_S1_0).shape) (numel1_S1.symm ▸ Nat.one_pos)) = t)
    (hx : View.readAt (Elt F) arg3.view (Rect.unit (s := S8x100000) ![0, 98304] S8x1024.size inb_S8x100000_S8x1024_0_98304).toLoadRect (harg3.unread x2) = lx)
    (hl : View.readAt (Elt F) arg3.view (Rect.unit (s := S8x100000) ![0, 99328] S8x672.size inb_S8x100000_S8x672_0_99328).toLoadRect (harg3.unread x2) = lt) :
    (runFirst c i arg1 harg1 arg2 harg2 arg3 harg3 arg4 harg4 arg5 harg5 arg6 harg6 hc0 x0 x1 x2 x3).1
      = samplesVal i t k0 k1 (key2 k0 k1) (st_k0_t1 Variants.none c none i arg1 harg1 arg2 harg2 arg3 harg3 arg4 harg4 arg5 harg5 arg6 harg6 t k0 k1 (key2 k0 k1) (harg3.unread x2) (carry0 i k1) k0_t1_loop.trips) lx lt := by
  unfold runFirst
  dsimp only
  iterate 12 sl_unfold_run_names
  rw [hx, hl, ht, hk1, hk0]
  simp only [k0_pay1,
      k0_pay677, k0_pay678, k0_pay679, k0_pay680,
      k0_pay694, k0_pay695, k0_pay696, k0_pay697, k0_pay698, k0_pay699, k0_pay700, k0_pay701, k0_pay702, k0_pay703,
      k0_pay704, k0_pay705, k0_pay706, k0_pay707, k0_pay708, k0_pay709, k0_pay710, k0_pay711, k0_pay712, k0_pay713,
      k0_pay714, k0_pay715, k0_pay716, k0_pay717, k0_pay718, k0_pay719, k0_pay720, k0_pay721, k0_pay722, k0_pay723,
      k0_pay724, k0_pay725, k0_pay726, k0_pay727, k0_pay728, k0_pay729, k0_pay730, k0_pay731, k0_pay732, k0_pay733,
      k0_pay734, k0_pay735, k0_pay736, k0_pay737, k0_pay738, k0_pay739, k0_pay740, k0_pay741, k0_pay742, k0_pay743,
      k0_pay744, k0_pay745, k0_pay746, k0_pay747, k0_pay748, k0_pay749, k0_pay750, k0_pay751, k0_pay752, k0_pay753,
      k0_pay754, k0_pay755, k0_pay756, k0_pay757, k0_pay758, k0_pay759, k0_pay760, k0_pay761, k0_pay762, k0_pay763,
      k0_pay764, k0_pay765, k0_pay766, k0_pay767, k0_pay768, k0_pay769, k0_pay770, k0_pay771, k0_pay772, k0_pay773,
      k0_pay774, k0_pay775, k0_pay776, k0_pay777, k0_pay778, k0_pay779, k0_pay780, k0_pay781, k0_pay782, k0_pay783,
      k0_pay784, k0_pay785, k0_pay786, k0_pay787, k0_pay788, k0_pay789, k0_pay790, k0_pay791, k0_pay792, k0_pay793,
      k0_pay794, k0_pay795, k0_pay796, k0_pay797, k0_pay798, k0_pay799, k0_pay800, k0_pay801, k0_pay802, k0_pay803,
      k0_pay804, k0_pay805, k0_pay806, k0_pay807, k0_pay808, k0_pay809, k0_pay810, k0_pay811, k0_pay812, k0_pay813,
      k0_pay814, k0_pay815, k0_pay816, k0_pay817, k0_pay818, k0_pay819, k0_pay820, k0_pay821, k0_pay822, k0_pay823,
      k0_pay824, k0_pay825, k0_pay826, k0_pay827, k0_pay828, k0_pay829, k0_pay830, k0_pay831, k0_pay832, k0_pay833,
      k0_pay834, k0_pay835, k0_pay836, k0_pay837, k0_pay838, k0_pay839, k0_pay840, k0_pay841, k0_pay842, k0_pay843,
      k0_pay844, k0_pay845, k0_pay846, k0_pay847, k0_pay848, k0_pay849, k0_pay850, k0_pay851, k0_pay852, k0_pay853,
      k0_pay854, k0_pay855, k0_pay856, k0_pay857, k0_pay858, k0_pay859, k0_pay860, k0_pay861, k0_pay862, k0_pay863,
      k0_pay864, k0_pay865, k0_pay866, k0_pay867, k0_pay868, k0_pay869, k0_pay870, k0_pay871, k0_pay872, k0_pay873,
      k0_pay874, k0_pay875, k0_pay876, k0_pay877, k0_pay878, k0_pay879, k0_pay880, k0_pay881, k0_pay882, k0_pay883,
      k0_pay884, k0_pay885, k0_pay886, k0_pay887, k0_pay888, k0_pay889, k0_pay890,
      samplesVal, column, pick, firstAt, firstAtT, top, topT, counters, countersT, rowBase, carry0, key2, perturbed, unit01, bits, words, inject,
      roundsA, roundsB, mixRound]

set_option maxHeartbeats 4000000 in
/-- The Bernoulli draws. -/
theorem runFirst_bern (c : Dev nD) (i : grid0.Coords) (arg1 : Memref sig .tc .smem S4 .i32) (harg1 : arg1.IsWhole) (arg2 : Memref sig .tc .smem S2 .f32) (harg2 : arg2.IsWhole) (arg3 : Memref sig .tc .vmem S8x100000 .f32) (harg3 : arg3.IsWhole) (arg4 : Memref sig .tc .vmem S8x128 .f32) (harg4 : arg4.IsWhole) (arg5 : Memref sig .tc .vmem S8x2 .i32) (harg5 : arg5.IsWhole) (arg6 : Memref sig .tc .vmem S8x128 .f32) (harg6 : arg6.IsWhole) (hc0 : k0_cond1 i = 1#1) (x0 : Vec F S4 .i32) (x1 : Vec F S2 .f32) (x2 : Vec F S8x100000 .f32) (x3 : Vec F S8x128 .f32)
    (k0 k1 : BitVec 32) (t : F .f32) (l : FVec F S8x128 .f32)
    (hk0 : View.readAt (Elt F) arg1.view (Rect.unit (s := S4) ![2] S1.size inb_S4_S1_2).toLoadRect (harg1.unread x0) (Shape.Idx.first (s := (Rect.unit (s := S4) ![2] S1.size inb_S4_S1_2).shape) (numel1_S1.symm ▸ Nat.one_pos)) = k0)
    (hk1 : View.readAt (Elt F) arg1.view (Rect.unit (s := S4) ![3] S1.size inb_S4_S1_3).toLoadRect (harg1.unread x0) (Shape.Idx.first (s := (Rect.unit (s := S4) ![3] S1.size inb_S4_S1_3).shape) (numel1_S1.symm ▸ Nat.one_pos)) = k1)
    (ht : View.readAt (Elt F) arg2.view (Rect.unit (s := S2) ![1] S1.size inb_S2_S1_1).toLoadRect (harg2.unread x1) (Shape.Idx.first (s := (Rect.unit (s := S2) ![1] S1.size inb_S2_S1_1).shape) (numel1_S1.symm ▸ Nat.one_pos)) = t)
    (hl : View.readAt (Elt F) arg4.view (Rect.unit (s := S8x128) ![0, 0] S8x128.size inb_S8x128_S8x128_0_0).toLoadRect (harg4.unread x3) = l) :
    (runFirst c i arg1 harg1 arg2 harg2 arg3 harg3 arg4 harg4 arg5 harg5 arg6 harg6 hc0 x0 x1 x2 x3).2.1 = bernVal t k0 k1 (key2 k0 k1) l := by
  unfold runFirst
  dsimp only
  iterate 12 sl_unfold_run_names
  rw [hl, ht, hk1, hk0]
  simp only [k0_pay2,
      k0_pay640, k0_pay641, k0_pay642, k0_pay643, k0_pay644, k0_pay645, k0_pay646, k0_pay647, k0_pay648, k0_pay649,
      k0_pay650, k0_pay651, k0_pay652, k0_pay653, k0_pay654, k0_pay655, k0_pay656, k0_pay657, k0_pay658, k0_pay659,
      k0_pay660, k0_pay661, k0_pay662, k0_pay663, k0_pay664, k0_pay665, k0_pay666, k0_pay667, k0_pay668, k0_pay669,
      k0_pay670, k0_pay671, k0_pay672, k0_pay673, k0_pay674, k0_pay675, k0_pay676,
      bernVal, key2, unit01, bits, words, inject, roundsA, roundsB, mixRound]

end Cert.KernelIdeal.Value

end
-- ==== Proof.RefFrame.lean ====
/-
  The reference program runs, leaves its arguments as they were, and ends with every counter at zero.
-/
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Quiescent

@[expose] public section

set_option maxRecDepth 16384

noncomputable section

namespace Cert.ReferenceIdeal.Value

open Idealize.ShloMosaic Idealize.SL.Sem Cert.ReferenceIdeal

set_option maxHeartbeats 4000000 in
theorem frame : Cert.quiescent_ReferenceIdeal (hReferenceIdeal := Cert.ReferenceIdeal.Gen.facts) := by
  intro m g hpre
  hlo_run
  · exact fun c => ⟨trivial, trivial, trivial, trivial⟩
  · exact sem_eq_zero_of_no_sems (by decide) r.2

end Cert.ReferenceIdeal.Value

end
-- ==== Proof.Settled.lean ====
/-
  Host operations in single assignment: where the buffers a list writes have strictly rising numbers and every operand's
  number lies below its result's, the contents after the list satisfy each operation's own equation.
-/
module

public import Idealize.ShloMosaic.Lib.StableHlo.Run

@[expose] public section

noncomputable section

namespace Cert.Proof

open Idealize.ShloMosaic Idealize.ShloMosaic.StableHlo

variable {τ : Topo} {sig : RefSig} {Val : EltTy → Type}

/-- A reference's number. -/
abbrev num (τ : Topo) {sig : RefSig} (r : Ref sig .tc) : Nat := (Proc.devRef (τ := τ) .tc r).idx.val

/-- Whatever `op` writes holds, in `X`, what `op` makes of `X`. -/
def Met (X : Valuation τ sig Val) (op : HloOp τ sig Val) : Prop := ∀ b ∈ op.writes, X b = op.result X b

/-- Every operation of a list is met. -/
def AllMet (X : Valuation τ sig Val) : List (HloOp τ sig Val) → Prop
  | [] => True
  | op :: rest => Met X op ∧ AllMet X rest

/-- Results are numbered upwards from `n`, each depending only on lower numbers. -/
inductive Rising : Nat → List (HloOp τ sig Val) → Prop
  | nil (n : Nat) : Rising n []
  | cons {n : Nat} {op : HloOp τ sig Val} {rest : List (HloOp τ sig Val)} (y : Ref sig .tc)
      (hw : op.writes = {Proc.devRef .tc y}) (hf : op.fresh = ∅) (hb : op.bufs ⊆ tcRefs τ sig) (hn : n ≤ num τ y)
      (hd : ∀ X X' : Valuation τ sig Val, (∀ b, b.idx.val < num τ y → X b = X' b) →
        op.result X (Proc.devRef .tc y) = op.result X' (Proc.devRef .tc y))
      (hr : Rising (num τ y + 1) rest) : Rising n (op :: rest)

theorem Rising.kept {n : Nat} {ops : List (HloOp τ sig Val)} (h : Rising n ops) (V : Valuation τ sig Val)
    (b : DevRef τ sig) (hb : b.idx.val < n) : after ops V b = V b := by
  induction h generalizing V with
  | nil => rfl
  | @cons n op rest y hw hf hs hn hd hr ih =>
    rw [after_cons, ih _ (by omega)]
    apply HloOp.result_of_not_mem
    rw [hw, Finset.mem_singleton]
    rintro rfl
    exact absurd hb (Nat.not_lt.mpr hn)

theorem Rising.met {n : Nat} {ops : List (HloOp τ sig Val)} (h : Rising n ops) (V : Valuation τ sig Val) :
    AllMet (after ops V) ops := by
  induction h generalizing V with
  | nil => trivial
  | @cons n op rest y hw hf hs hn hd hr ih =>
    refine ⟨?_, ih _⟩
    intro b hb
    rw [hw, Finset.mem_singleton] at hb
    subst hb
    rw [after_cons, hr.kept _ _ (Nat.lt_succ_self _)]
    apply hd
    intro b hb
    rw [hr.kept _ _ (by omega)]
    symm
    apply HloOp.result_of_not_mem
    rw [hw, Finset.mem_singleton]
    rintro rfl
    exact absurd hb (Nat.lt_irrefl _)

theorem Rising.fresh {n : Nat} {ops : List (HloOp τ sig Val)} (h : Rising n ops) : ∀ op ∈ ops, op.fresh = ∅ := by
  induction h with
  | nil => exact fun _ h => nomatch h
  | cons y hw hf hs hn hd hr ih => exact List.forall_mem_cons.mpr ⟨hf, ih⟩

theorem Rising.bufs {n : Nat} {ops : List (HloOp τ sig Val)} (h : Rising n ops) :
    ops.Forall fun op => op.bufs ⊆ tcRefs τ sig := by
  rw [List.forall_iff_forall_mem]
  induction h with
  | nil => exact fun _ h => nomatch h
  | cons y hw hf hs hn hd hr ih => exact List.forall_mem_cons.mpr ⟨hs, ih⟩

theorem AllMet.drop {X : Valuation τ sig Val} : ∀ (n : Nat) (l : List (HloOp τ sig Val)), AllMet X l → AllMet X (l.drop n)
  | 0, _, h => h
  | _ + 1, [], _ => trivial
  | n + 1, _ :: l, h => AllMet.drop n l h.2

theorem AllMet.take {X : Valuation τ sig Val} : ∀ (n : Nat) (l : List (HloOp τ sig Val)), AllMet X l → AllMet X (l.take n)
  | 0, _, _ => trivial
  | _ + 1, [], _ => trivial
  | n + 1, _ :: l, h => ⟨h.1, AllMet.take n l h.2⟩

/-- The operations numbered `a` to `a + n` are met. -/
theorem AllMet.slice {X : Valuation τ sig Val} {l : List (HloOp τ sig Val)} (h : AllMet X l) (a n : Nat) :
    AllMet X ((l.drop a).take n) := .take n _ (.drop a _ h)

section Ops

variable {n : Nat} {rest : List (HloOp τ sig Val)} {a b c x y : Ref sig .tc}

theorem Rising.nullary (v : y.ty.Contents Val) (hy) (hn : n ≤ num τ y) (hr : Rising (num τ y + 1) rest) :
    Rising n (StableHlo.nullary (τ := τ) y v hy :: rest) :=
  .cons y rfl rfl (nullary_bufs_sub ..) hn (fun X X' _ => by rw [nullary_result, nullary_result]) hr

theorem Rising.unary (f : x.ty.Contents Val → y.ty.Contents Val) (hx hy) (hn : n ≤ num τ y) (h1 : num τ x < num τ y)
    (hr : Rising (num τ y + 1) rest) : Rising n (StableHlo.unary (τ := τ) x y f hx hy :: rest) :=
  .cons y rfl rfl (unary_bufs_sub ..) hn (fun X X' h => by rw [unary_result, unary_result, h _ h1]) hr

theorem Rising.binary (f : a.ty.Contents Val → b.ty.Contents Val → y.ty.Contents Val) (ha hb hy) (hn : n ≤ num τ y)
    (h1 : num τ a < num τ y) (h2 : num τ b < num τ y)
    (hr : Rising (num τ y + 1) rest) : Rising n (StableHlo.binary (τ := τ) a b y f ha hb hy :: rest) :=
  .cons y rfl rfl (binary_bufs_sub ..) hn (fun X X' h => by rw [binary_result, binary_result, h _ h1, h _ h2]) hr

theorem Rising.ternary (f : c.ty.Contents Val → a.ty.Contents Val → b.ty.Contents Val → y.ty.Contents Val) (hc ha hb hy)
    (hn : n ≤ num τ y) (h0 : num τ c < num τ y) (h1 : num τ a < num τ y) (h2 : num τ b < num τ y)
    (hr : Rising (num τ y + 1) rest) : Rising n (StableHlo.ternary (τ := τ) c a b y f hc ha hb hy :: rest) :=
  .cons y rfl rfl (ternary_bufs_sub ..) hn (fun X X' h => by rw [ternary_result, ternary_result, h _ h0, h _ h1, h _ h2]) hr

theorem Rising.quaternary {e : Ref sig .tc}
    (f : a.ty.Contents Val → b.ty.Contents Val → c.ty.Contents Val → e.ty.Contents Val → y.ty.Contents Val)
    (ha hb hc he hy) (hn : n ≤ num τ y) (h0 : num τ a < num τ y) (h1 : num τ b < num τ y) (h2 : num τ c < num τ y)
    (h3 : num τ e < num τ y)
    (hr : Rising (num τ y + 1) rest) : Rising n (StableHlo.quaternary (τ := τ) a b c e y f ha hb hc he hy :: rest) :=
  .cons y rfl rfl (quaternary_bufs_sub ..) hn (fun X X' h => by rw [quaternary_result, quaternary_result, h _ h0, h _ h1, h _ h2, h _ h3]) hr

theorem Rising.reshape (he hs hx hy) (hn : n ≤ num τ y) (h1 : num τ x < num τ y)
    (hr : Rising (num τ y + 1) rest) : Rising n (StableHlo.reshape (τ := τ) (Val := Val) x y he hs hx hy :: rest) :=
  .cons y rfl rfl (reshape_bufs_sub ..) hn (fun X X' h => by rw [reshape_result, reshape_result, h _ h1]) hr

variable {X : Valuation τ sig Val}

theorem met_nullary (v : y.ty.Contents Val) (hy) :
    Met X (StableHlo.nullary (τ := τ) y v hy) ↔ X (Proc.devRef .tc y) = v := by
  constructor
  · intro h; rw [h _ (Finset.mem_singleton_self _), nullary_result]
  · intro h b hb; cases Finset.mem_singleton.mp hb; rw [h, nullary_result]

theorem met_unary (f : x.ty.Contents Val → y.ty.Contents Val) (hx hy) :
    Met X (StableHlo.unary (τ := τ) x y f hx hy) ↔ X (Proc.devRef .tc y) = f (X (Proc.devRef .tc x)) := by
  constructor
  · intro h; rw [h _ (Finset.mem_singleton_self _), unary_result]
  · intro h b hb; cases Finset.mem_singleton.mp hb; rw [h, unary_result]

theorem met_binary (f : a.ty.Contents Val → b.ty.Contents Val → y.ty.Contents Val) (ha hb hy) :
    Met X (StableHlo.binary (τ := τ) a b y f ha hb hy)
      ↔ X (Proc.devRef .tc y) = f (X (Proc.devRef .tc a)) (X (Proc.devRef .tc b)) := by
  constructor
  · intro h; rw [h _ (Finset.mem_singleton_self _), binary_result]
  · intro h b hb; cases Finset.mem_singleton.mp hb; rw [h, binary_result]

theorem met_ternary (f : c.ty.Contents Val → a.ty.Contents Val → b.ty.Contents Val → y.ty.Contents Val) (hc ha hb hy) :
    Met X (StableHlo.ternary (τ := τ) c a b y f hc ha hb hy)
      ↔ X (Proc.devRef .tc y) = f (X (Proc.devRef .tc c)) (X (Proc.devRef .tc a)) (X (Proc.devRef .tc b)) := by
  constructor
  · intro h; rw [h _ (Finset.mem_singleton_self _), ternary_result]
  · intro h b hb; cases Finset.mem_singleton.mp hb; rw [h, ternary_result]

theorem met_quaternary {e : Ref sig .tc}
    (f : a.ty.Contents Val → b.ty.Contents Val → c.ty.Contents Val → e.ty.Contents Val → y.ty.Contents Val)
    (ha hb hc he hy) :
    Met X (StableHlo.quaternary (τ := τ) a b c e y f ha hb hc he hy)
      ↔ X (Proc.devRef .tc y) = f (X (Proc.devRef .tc a)) (X (Proc.devRef .tc b)) (X (Proc.devRef .tc c)) (X (Proc.devRef .tc e)) := by
  constructor
  · intro h; rw [h _ (Finset.mem_singleton_self _), quaternary_result]
  · intro h b hb; cases Finset.mem_singleton.mp hb; rw [h, quaternary_result]

theorem met_reshape (he hs hx hy) :
    Met X (StableHlo.reshape (τ := τ) (Val := Val) x y he hs hx hy)
      ↔ X (Proc.devRef .tc y) = fun i => he ▸ shapeCast y.ty.shape (X (Proc.devRef .tc x)) hs i := by
  constructor
  · intro h; rw [h _ (Finset.mem_singleton_self _), reshape_result]
  · intro h b hb; cases Finset.mem_singleton.mp hb; rw [h, reshape_result]

end Ops

end Cert.Proof

end
-- ==== Proof.RefLines.lean ====
/-
  The reference program as its list of operations: the list is in single assignment, and the program runs to the contents
  after it.
-/
module

public import proofs.«01_k».proof.Defs
public import proofs.«01_k».proof.Proof.Gen.ReferenceIdeal
public import proofs.«01_k».proof.Proof.Settled
public import Idealize.ShloMosaic.Lib.StableHlo.RunHlo
public import Idealize.ShloMosaic.Lib.Claim
public import Idealize.ShloMosaic.Lib.Quiescent

@[expose] public section

set_option maxRecDepth 16384

noncomputable section

namespace Cert.ReferenceIdeal.Value

open Idealize.ShloMosaic Idealize.ShloMosaic.StableHlo Idealize.SL.Sem Cert.ReferenceIdeal Cert.Proof

variable {F : FTy → Type} [FloatOps F]

set_option maxHeartbeats 4000000 in
/-- The reference's operations in order. -/
def lines : {l : List (HloOp τ sig (Elt F)) // ∀ d, IsSeq (main (F := F) d) l} := by
  apply Subtype.mk
  hlo_seq

set_option maxHeartbeats 40000000 in
theorem lines_rising : Rising 4 (lines (F := F)).1 := by
  unfold lines
  repeat first
    | exact .nil _
    | refine .binary _ _ _ _ (by decide) (by decide) (by decide) ?_
    | refine .unary _ _ _ (by decide) (by decide) ?_
    | refine .nullary _ _ (by decide) ?_
    | refine .reshape _ _ _ _ (by decide) (by decide) ?_
    | refine .quaternary _ _ _ _ _ _ (by decide) (by decide) (by decide) (by decide) (by decide) ?_

end Cert.ReferenceIdeal.Value

end
-- ==== Proof.HostWords.lean ====
/-
  The generator as host programs spell it: started from any pair of words, its injections in two additions, its constants
  broadcast from scalars.
-/
module

public import proofs.«01_k».proof.Proof.Words

@[expose] public section

noncomputable section

namespace Cert.Proof

open Idealize.ShloMosaic

/-- The generator from a starting pair. -/
def wordsFrom {s : Shape} (k0 k1 k2 : BitVec 32) (p : IVec s 32 × IVec s 32) : IVec s 32 × IVec s 32 :=
  inject k2 (Scalar.addi k0 5#32) (roundsA
    (inject k1 (Scalar.addi k2 4#32) (roundsB
      (inject k0 (Scalar.addi k1 3#32) (roundsA
        (inject k2 (Scalar.addi k0 2#32) (roundsB
          (inject k1 (Scalar.addi k2 1#32) (roundsA p)))))))))

theorem words_eq {s : Shape} (k0 k1 k2 : BitVec 32) (x : IVec s 32) :
    words k0 k1 k2 x = wordsFrom k0 k1 k2 (broadcast s k0, x) := rfl

/-- The third key word. -/
def third (k0 k1 : BitVec 32) : BitVec 32 := Scalar.xori (Scalar.xori k0 k1) 466688986#32

/-- The generator on a key and a 64-bit counter's two halves. -/
def wordsOf {s : Shape} (k0 k1 : BitVec 32) (hi lo : IVec s 32) : IVec s 32 × IVec s 32 :=
  wordsFrom k0 k1 (third k0 k1) (addi hi (broadcast s k0), addi lo (broadcast s k1))

/-- A scalar tensor's element. -/
def scal {α : Type} (x : (⟨0, ![]⟩ : Shape).Idx → α) : α := x fun a => a.elim0

theorem broadcastInDim_scal {α : Type} (t : Shape) (dims) (h) (x : (⟨0, ![]⟩ : Shape).Idx → α) :
    broadcastInDim t dims h x = broadcast t (scal x) := by
  funext j
  exact congrArg x (funext fun a => a.elim0)

theorem scal_constantI (w : Nat) (b : BitVec w) : scal (constantI ⟨0, ![]⟩ w b) = b := rfl

theorem scal_xori (x y : IVec ⟨0, ![]⟩ 32) : scal (xori x y) = Scalar.xori (scal x) (scal y) := rfl

theorem addi_addi {s : Shape} (x : IVec s 32) (a b : BitVec 32) :
    addi (addi x (broadcast s a)) (broadcast s b) = addi x (broadcast s (Scalar.addi a b)) := by
  funext i
  simp only [addi, broadcast, Scalar.addi, IntOp.addi, BitVec.add_assoc]

/-- A round with the operands of its last operation exchanged. -/
theorem mixRound_flip {s : Shape} (a b : BitVec 32) (p : IVec s 32 × IVec s 32) :
    mixRound a b p = (addi p.1 p.2, xori (addi p.1 p.2) (ori (shli p.2 (broadcast s a)) (shrui p.2 (broadcast s b)))) := by
  unfold mixRound
  congr 1
  funext i
  exact BitVec.xor_comm _ _

theorem host_shli {s : Shape} (x : IVec s 32) (a : BitVec 32) (ha : a.toNat < 32) :
    Host.shli x (broadcast s a) = shli x (broadcast s a) := by
  funext i
  exact (if_pos ha).trans (if_pos ha).symm

theorem host_shrui {s : Shape} (x : IVec s 32) (a : BitVec 32) (ha : a.toNat < 32) :
    Host.shrui x (broadcast s a) = shrui x (broadcast s a) := by
  funext i
  exact (if_pos ha).trans (if_pos ha).symm

end Cert.Proof

end
-- ==== Proof.Keys.lean ====
/-
  The two keys both programs draw from the seed: the seed's words split once.
-/
module

public import proofs.«01_k».proof.Proof.HostWords

@[expose] public section

noncomputable section

namespace Cert.Proof

open Idealize.ShloMosaic

abbrev T0 : Shape := ⟨0, ![]⟩
abbrev T1 : Shape := ⟨1, ![1]⟩
abbrev T2 : Shape := ⟨1, ![2]⟩
abbrev T12 : Shape := ⟨2, ![1, 2]⟩
abbrev T21 : Shape := ⟨2, ![2, 1]⟩
abbrev T22 : Shape := ⟨2, ![2, 2]⟩

/-- The seed 42 as a pair of words. -/
def seed : IVec T2 32 :=
  concatenate T2 0 [⟨T1, broadcastInDim T1 ![] (by decide) (Host.shrui (constantI T0 32 42#32) (constantI T0 32 32#32))⟩,
    ⟨T1, broadcastInDim T1 ![] (by decide) (andi (constantI T0 32 42#32) (constantI T0 32 4294967295#32))⟩] (by decide)

/-- A key's two words. -/
def keyWord0 (k : IVec T2 32) : BitVec 32 := scal (shapeCast T0 (extractStridedSlice T1 ![0] k (by decide)) (by decide))
def keyWord1 (k : IVec T2 32) : BitVec 32 := scal (shapeCast T0 (extractStridedSlice T1 ![1] k (by decide)) (by decide))

/-- The counters 0 and 1, as 64-bit numbers. -/
def splitCounters : IVec T2 64 :=
  muli (broadcastInDim T2 ![] (by decide) (constantI T0 64 1#64)) (iotaInDim T2 64 0)

/-- The seed's generator words at the counters 0 and 1. -/
def splitWords : IVec T2 32 × IVec T2 32 :=
  wordsOf (s := T2) (keyWord0 seed) (keyWord1 seed)
    (trunci 32 (Host.shrui splitCounters (broadcastInDim T2 ![] (by decide) (constantI T0 64 32#64))) (by decide))
    (trunci 32 splitCounters (by decide))

/-- The two keys, a row each. -/
def splitKeys : IVec T22 32 :=
  concatenate T22 1 [⟨T21, broadcastInDim T21 ![0] (by decide) splitWords.1⟩, ⟨T21, broadcastInDim T21 ![0] (by decide) splitWords.2⟩]
    (by decide)

/-- The key of the samples, and of the Bernoulli draws. -/
def keyA : IVec T2 32 := shapeCast T2 (extractStridedSlice T12 ![0, 0] splitKeys (by decide)) (by decide)
def keyB : IVec T2 32 := shapeCast T2 (extractStridedSlice T12 ![1, 0] splitKeys (by decide)) (by decide)

end Cert.Proof

end
-- ==== Proof.RefRead.lean ====
/-
  What the reference's buffers hold, in any contents that satisfy its operations' equations: the generator's three calls as
  `wordsOf`, and the two results over the two keys.
-/
module

public import proofs.«01_k».proof.Proof.RefLines
public import proofs.«01_k».proof.Proof.Keys

@[expose] public section

set_option maxRecDepth 16384

noncomputable section

namespace Cert.ReferenceIdeal.Value

open Idealize.ShloMosaic Idealize.ShloMosaic.StableHlo Idealize.SL.Sem Cert.ReferenceIdeal Cert.ReferenceIdeal.Gen Cert.Proof

variable {F : FTy → Type} [FloatOps F]

/-- The samples' counters: row-major positions, 64 bits wide. -/
def positions : IVec S2x1024x100000 64 :=
  addi (addi (muli (broadcast S2x1024x100000 102400000#64) (iotaInDim S2x1024x100000 64 0))
    (muli (broadcast S2x1024x100000 100000#64) (iotaInDim S2x1024x100000 64 1)))
    (muli (broadcast S2x1024x100000 1#64) (iotaInDim S2x1024x100000 64 2))

/-- The samples' generator words under a key. -/
def sampleWords (k : IVec T2 32) : IVec S2x1024x100000 32 × IVec S2x1024x100000 32 :=
  wordsOf (s := S2x1024x100000) (keyWord0 k) (keyWord1 k)
    (trunci 32 (Host.shrui positions (broadcast S2x1024x100000 32#64)) natLt_32_64) (trunci 32 positions natLt_32_64)

/-- The samples' uniform numbers. -/
def sampleUniforms (k : IVec T2 32) : FVec F S2x1024x100000 .f32 :=
  maximumf (broadcastInDim S2x1024x100000 ![0, 1, 2] bcast_S1x1x1_S2x1024x100000_0_1_2 (broadcast S1x1x1 (scal (constant S_ .f32 0x00000000#32))))
    (addf (mulf (subf (bitcastToFloat .f32 (ori (Host.shrui (xori (sampleWords k).1 (sampleWords k).2) (broadcast S2x1024x100000 9#32))
        (broadcast S2x1024x100000 1065353216#32))) (broadcast S2x1024x100000 (scal (constant S_ .f32 0x3F800000#32))))
      (broadcastInDim S2x1024x100000 ![0, 1, 2] bcast_S1x1x1_S2x1024x100000_0_1_2
        (subf (broadcast S1x1x1 (scal (constant S_ .f32 0x3F800000#32))) (broadcast S1x1x1 (scal (constant S_ .f32 0x00000000#32))))))
      (broadcastInDim S2x1024x100000 ![0, 1, 2] bcast_S1x1x1_S2x1024x100000_0_1_2 (broadcast S1x1x1 (scal (constant S_ .f32 0x00000000#32)))))

/-- The perturbed logits. -/
def field (k : IVec T2 32) (x : FVec F S1024x100000 .f32) (t : FVec F S_ .f32) : FVec F S2x1024x100000 .f32 :=
  addf (Host.negf (Host.log (Host.negf (Host.log (maximumf (broadcast S2x1024x100000 (scal (constant S_ .f32 0x00800000#32)))
      (sampleUniforms k))))))
    (broadcastInDim S2x1024x100000 ![0, 1, 2] bcast_S1x1024x100000_S2x1024x100000_0_1_2
      (broadcastInDim S1x1024x100000 ![1, 2] bcast_S1024x100000_S1x1024x100000_1_2
        (mulf x (broadcast S1024x100000 (scal t)))))

/-- The samples: each row's largest element, transposed. -/
def samples (k : IVec T2 32) (x : FVec F S1024x100000 .f32) (t : FVec F S_ .f32) : IVec S1024x2 32 :=
  transpose S1024x2 [1, 0] (fun j => (Host.argReduce reducer_argmax_f32_i32 (field k x t) (iotaInDim S2x1024x100000 32 2)
    (constant S_ .f32 0xFF800000#32) (constantI S_ 32 0#32) reducesTo_S2x1024x100000_S2x1024_d2 h_S_ j).2)
    transposes_S2x1024_S1024x2_1_0

/-- The Bernoulli draws' counters and generator words. -/
def drawPositions : IVec S1024 64 := muli (broadcast S1024 1#64) (iotaInDim S1024 64 0)

def drawWords (k : IVec T2 32) : IVec S1024 32 × IVec S1024 32 :=
  wordsOf (s := S1024) (keyWord0 k) (keyWord1 k)
    (trunci 32 (Host.shrui drawPositions (broadcast S1024 32#64)) natLt_32_64) (trunci 32 drawPositions natLt_32_64)

/-- The uniform numbers. -/
def uniforms (k : IVec T2 32) : FVec F S1024 .f32 :=
  maximumf (broadcastInDim S1024 ![0] bcast_S1_S1024_0 (broadcast S1 (scal (constant S_ .f32 0x00000000#32))))
    (addf (mulf (subf (bitcastToFloat .f32 (ori (Host.shrui (xori (drawWords k).1 (drawWords k).2) (broadcast S1024 9#32))
        (broadcast S1024 1065353216#32))) (broadcast S1024 (scal (constant S_ .f32 0x3F800000#32))))
      (broadcastInDim S1024 ![0] bcast_S1_S1024_0
        (subf (broadcast S1 (scal (constant S_ .f32 0x3F800000#32))) (broadcast S1 (scal (constant S_ .f32 0x00000000#32))))))
      (broadcastInDim S1024 ![0] bcast_S1_S1024_0 (broadcast S1 (scal (constant S_ .f32 0x00000000#32)))))

/-- The Bernoulli draws. -/
def draws (k : IVec T2 32) (x : FVec F S1024 .f32) (t : FVec F S_ .f32) : FVec F S1024 .f32 :=
  uitofp .f32 (cmpf .olt (uniforms k)
    (Host.divf (broadcast S1024 (scal (constant S_ .f32 0x3F800000#32)))
      (addf (broadcast S1024 (scal (constant S_ .f32 0x3F800000#32)))
        (Host.exp (Host.negf (mulf x (broadcast S1024 (scal t))))))))

section Calls

attribute [local irreducible] wordsOf Host.argReduce concatenate shapeCast extractStridedSlice trunci iotaInDim muli broadcast scal

variable (X : Valuation τ sig (Elt F)) (h : AllMet X (lines (F := F)).1)
include h

set_option maxHeartbeats 40000000 in
/-- The generator's call that splits the seed. -/
theorem read_split :
    X (Proc.devRef .tc main_call0_v11_0) = (wordsOf (s := S2) (scal (X (Proc.devRef .tc main_call0_v1))) (scal (X (Proc.devRef .tc main_call0_v3)))
        (X (Proc.devRef .tc main_call0_v10)) (X (Proc.devRef .tc main_call0_v9))).1 ∧
      X (Proc.devRef .tc main_call0_v11_1) = (wordsOf (s := S2) (scal (X (Proc.devRef .tc main_call0_v1))) (scal (X (Proc.devRef .tc main_call0_v3)))
        (X (Proc.devRef .tc main_call0_v10)) (X (Proc.devRef .tc main_call0_v9))).2 := by
  replace h := h.slice 23 222
  unfold lines at h
  simp only [List.drop_succ_cons, List.drop_zero, List.take_succ_cons, List.take_zero, AllMet] at h
  simp -implicitDefEqProofs only [met_unary, met_binary, met_nullary, TRef.toBuf, TRef.ofBuf, cast_cast, cast_eq, and_true] at h
  simp only [h, broadcastInDim_scal, scal_constantI, scal_xori]
  simp (disch := decide) only [addi_addi, host_shli, host_shrui, wordsOf, wordsFrom, roundsA, roundsB, mixRound_flip, inject, third, and_self]

set_option maxHeartbeats 40000000 in
/-- The generator's call for the samples. -/
theorem read_sampleWords :
    X (Proc.devRef .tc main_call1_v23_0) = (wordsOf (s := S2x1024x100000) (scal (X (Proc.devRef .tc main_call1_v5))) (scal (X (Proc.devRef .tc main_call1_v7)))
        (X (Proc.devRef .tc main_call1_v22)) (X (Proc.devRef .tc main_call1_v21))).1 ∧
      X (Proc.devRef .tc main_call1_v23_1) = (wordsOf (s := S2x1024x100000) (scal (X (Proc.devRef .tc main_call1_v5))) (scal (X (Proc.devRef .tc main_call1_v7)))
        (X (Proc.devRef .tc main_call1_v22)) (X (Proc.devRef .tc main_call1_v21))).2 := by
  replace h := h.slice 283 222
  unfold lines at h
  simp only [List.drop_succ_cons, List.drop_zero, List.take_succ_cons, List.take_zero, AllMet] at h
  simp -implicitDefEqProofs only [met_unary, met_binary, met_nullary, TRef.toBuf, TRef.ofBuf, cast_cast, cast_eq, and_true] at h
  simp only [h, broadcastInDim_scal, scal_constantI, scal_xori]
  simp (disch := decide) only [addi_addi, host_shli, host_shrui, wordsOf, wordsFrom, roundsA, roundsB, mixRound_flip, inject, third, and_self]

set_option maxHeartbeats 40000000 in
/-- The generator's call for the Bernoulli draws. -/
theorem read_drawWords :
    X (Proc.devRef .tc main_call3_call0_v15_0) = (wordsOf (s := S1024) (scal (X (Proc.devRef .tc main_call3_call0_v5))) (scal (X (Proc.devRef .tc main_call3_call0_v7)))
        (X (Proc.devRef .tc main_call3_call0_v14)) (X (Proc.devRef .tc main_call3_call0_v13))).1 ∧
      X (Proc.devRef .tc main_call3_call0_v15_1) = (wordsOf (s := S1024) (scal (X (Proc.devRef .tc main_call3_call0_v5))) (scal (X (Proc.devRef .tc main_call3_call0_v7)))
        (X (Proc.devRef .tc main_call3_call0_v14)) (X (Proc.devRef .tc main_call3_call0_v13))).2 := by
  replace h := h.slice 568 222
  unfold lines at h
  simp only [List.drop_succ_cons, List.drop_zero, List.take_succ_cons, List.take_zero, AllMet] at h
  simp -implicitDefEqProofs only [met_unary, met_binary, met_nullary, TRef.toBuf, TRef.ofBuf, cast_cast, cast_eq, and_true] at h
  simp only [h, broadcastInDim_scal, scal_constantI, scal_xori]
  simp (disch := decide) only [addi_addi, host_shli, host_shrui, wordsOf, wordsFrom, roundsA, roundsB, mixRound_flip, inject, third, and_self]

set_option maxHeartbeats 40000000 in
theorem read_keys : X (Proc.devRef .tc main_v9) = keyA ∧ X (Proc.devRef .tc main_v11) = keyB := by
  have hs := read_split X h
  have h1 := h.slice 0 23
  have h2 := h.slice 245 7
  unfold lines at h1 h2
  simp only [List.drop_succ_cons, List.drop_zero, List.take_succ_cons, List.take_zero, AllMet] at h1 h2
  simp -implicitDefEqProofs only [met_unary, met_binary, met_nullary, met_reshape, TRef.toBuf, TRef.ofBuf, cast_cast, cast_eq, and_true] at h1 h2
  obtain ⟨a0, a1, a2, a3, a4, a5, a6, a7, a8, a9, h1⟩ := h1
  obtain ⟨e12, e13, e7, e8, e9, e10, e11⟩ := h2
  have es : X (Proc.devRef .tc main_v6) = seed := by
    rw [a9, a4, a8, a3, a7, a2, a6, a0, a1, a5]
    rfl
  have ew : wordsOf (s := S2) (scal (X (Proc.devRef .tc main_call0_v1))) (scal (X (Proc.devRef .tc main_call0_v3)))
      (X (Proc.devRef .tc main_call0_v10)) (X (Proc.devRef .tc main_call0_v9)) = splitWords := by
    simp only [h1, es, splitWords, splitCounters, keyWord0, keyWord1]
    rfl
  have e : X (Proc.devRef .tc main_v7) = splitKeys := by
    rw [e7, e12, e13, hs.1, hs.2, ew]
    rfl
  constructor
  · rw [e9, e8, e]
    rfl
  · rw [e11, e10, e]
    rfl

set_option maxHeartbeats 40000000 in
theorem read_samples : X (Proc.devRef .tc main_v25)
    = samples (X (Proc.devRef .tc main_v9)) (X (Proc.devRef .tc main_arg0)) (X (Proc.devRef .tc main_arg1)) := by
  have hs := read_sampleWords X h
  have h1 := h.slice 252 31
  have h2 := h.slice 505 34
  unfold lines at h1 h2
  simp only [List.drop_succ_cons, List.drop_zero, List.take_succ_cons, List.take_zero, AllMet] at h1 h2
  simp -implicitDefEqProofs only [met_unary, met_binary, met_nullary, met_reshape, met_quaternary, TRef.toBuf, TRef.ofBuf, cast_cast, cast_eq, and_true] at h1 h2
  simp only [h2, hs, h1, broadcastInDim_scal, scal_constantI, id, samples, field, sampleUniforms, sampleWords, positions, keyWord0, keyWord1]
  rfl

set_option maxHeartbeats 40000000 in
theorem read_draws : X (Proc.devRef .tc main_v35)
    = draws (X (Proc.devRef .tc main_v11)) (X (Proc.devRef .tc main_arg2)) (X (Proc.devRef .tc main_arg3)) := by
  have hs := read_drawWords X h
  have h1 := h.slice 539 29
  have h2 := h.slice 790 20
  unfold lines at h1 h2
  simp only [List.drop_succ_cons, List.drop_zero, List.take_succ_cons, List.take_zero, AllMet] at h1 h2
  simp -implicitDefEqProofs only [met_unary, met_binary, met_nullary, met_reshape, TRef.toBuf, TRef.ofBuf, cast_cast, cast_eq, and_true] at h1 h2
  simp only [h2, hs, h1, broadcastInDim_scal, scal_constantI, id, draws, uniforms, drawWords, drawPositions, keyWord0, keyWord1]
  rfl

end Calls

end Cert.ReferenceIdeal.Value

end
-- ==== Proof.RefRun.lean ====
/-
  The reference program's run: its results are `samples` and `draws` of its arguments, which stay as they were.
-/
module

public import proofs.«01_k».proof.Proof.RefRead

@[expose] public section

set_option maxRecDepth 16384

noncomputable section

namespace Cert.ReferenceIdeal.Value

open Idealize.ShloMosaic Idealize.ShloMosaic.StableHlo Idealize.SL.Sem Cert.ReferenceIdeal Cert.ReferenceIdeal.Gen Cert.Proof

variable {F : FTy → Type} [FloatOps F]
variable (m : (ℓ : Loc nD τ sig) → Buf (Elt F) ℓ) (ρ : Dev nD → PrngReg)

set_option maxHeartbeats 40000000 in
theorem run_main : θ_run (defs (F := F)) (onTc (τ := τ) (main (F := F))) ⟨m, fun _ => 0, ρ⟩ (fun r => ∀ c : Dev nD,
    r.2.mem ((c.tc : Thread nD τ).loc main_v25) = samples keyA (m ((c.tc : Thread nD τ).loc main_arg0)) (m ((c.tc : Thread nD τ).loc main_arg1)) ∧
    r.2.mem ((c.tc : Thread nD τ).loc main_v35) = draws keyB (m ((c.tc : Thread nD τ).loc main_arg2)) (m ((c.tc : Thread nD τ).loc main_arg3)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3)) := by
  refine θ_run_mono (run_hlo defs main (lines (F := F)).2 (by decide) (by decide) lines_rising.bufs lines_rising.fresh m ρ) ?_
  intro r hr c
  have hm := (lines_rising (F := F)).met (launchContents m c)
  have k0 := (lines_rising (F := F)).kept (launchContents m c) (Proc.devRef .tc main_arg0) (by decide)
  have k1 := (lines_rising (F := F)).kept (launchContents m c) (Proc.devRef .tc main_arg1) (by decide)
  have k2 := (lines_rising (F := F)).kept (launchContents m c) (Proc.devRef .tc main_arg2) (by decide)
  have k3 := (lines_rising (F := F)).kept (launchContents m c) (Proc.devRef .tc main_arg3) (by decide)
  have hk := read_keys _ hm
  have h1 := read_samples _ hm
  have h2 := read_draws _ hm
  rw [hk.1, k0, k1] at h1
  rw [hk.2, k2, k3] at h2
  exact ⟨(hr c _).trans h1, (hr c _).trans h2, (hr c _).trans k0, (hr c _).trans k1, (hr c _).trans k2, (hr c _).trans k3⟩

end Cert.ReferenceIdeal.Value

end
-- ==== Proof.HostLines.lean ====
/-
  The host operations before the kernel as one list in single assignment, and what the kernel's operands hold after it.
-/
module

public import proofs.«01_k».proof.Proof.Keys
public import proofs.«01_k».proof.Proof.Settled
public import proofs.«01_k».proof.Proof.Gen.KernelIdeal.Frame

@[expose] public section

set_option maxRecDepth 16384

noncomputable section

namespace Cert.KernelIdeal.Value

open Idealize.ShloMosaic Idealize.ShloMosaic.StableHlo Idealize.SL.Sem Cert.KernelIdeal Cert.KernelIdeal.Gen Cert.Proof

variable {F : FTy → Type} [FloatOps F]

/-- The operations before the kernel. -/
def prefixLines : List (HloOp τ sig (Elt F)) := List.flatten [hostOps0, hostOps0_1, hostOps0_2]

set_option maxHeartbeats 40000000 in
theorem prefixLines_rising : Rising 4 (prefixLines (F := F)) := by
  simp only [prefixLines, hostOps0, hostOps0_1, hostOps0_2, List.flatten_cons, List.flatten_nil, List.append_nil, List.cons_append, List.nil_append]
  repeat first
    | exact .nil _
    | refine .binary _ _ _ _ (by decide) (by decide) (by decide) ?_
    | refine .unary _ _ _ (by decide) (by decide) ?_
    | refine .nullary _ _ (by decide) ?_
    | refine .reshape _ _ _ _ (by decide) (by decide) ?_

end Cert.KernelIdeal.Value

end
-- ==== Proof.HostRead.lean ====
/-
  What the kernel's operands hold when it starts: the two keys side by side, the two temperatures, and the probabilities'
  logits as a block.
-/
module

public import proofs.«01_k».proof.Proof.HostLines

@[expose] public section

set_option maxRecDepth 16384

noncomputable section

namespace Cert.KernelIdeal.Value

open Idealize.ShloMosaic Idealize.ShloMosaic.StableHlo Idealize.SL.Sem Cert.KernelIdeal Cert.KernelIdeal.Gen Cert.Proof

variable {F : FTy → Type} [FloatOps F]

section Calls

attribute [local irreducible] wordsOf concatenate shapeCast extractStridedSlice trunci iotaInDim muli broadcast scal

variable (X : (b : DevRef τ sig) → b.ty.Contents (Elt F)) (h : AllMet X (prefixLines (F := F)))
include h

set_option maxHeartbeats 40000000 in
/-- The generator's call that splits the seed. -/
theorem read_split :
    X (Proc.devRef .tc main_call0_v11_0) = (wordsOf (s := S2) (scal (X (Proc.devRef .tc main_call0_v1))) (scal (X (Proc.devRef .tc main_call0_v3)))
        (X (Proc.devRef .tc main_call0_v10)) (X (Proc.devRef .tc main_call0_v9))).1 ∧
      X (Proc.devRef .tc main_call0_v11_1) = (wordsOf (s := S2) (scal (X (Proc.devRef .tc main_call0_v1))) (scal (X (Proc.devRef .tc main_call0_v3)))
        (X (Proc.devRef .tc main_call0_v10)) (X (Proc.devRef .tc main_call0_v9))).2 := by
  replace h := h.slice 23 222
  simp only [prefixLines, hostOps0, hostOps0_1, hostOps0_2, List.flatten_cons, List.flatten_nil, List.append_nil, List.cons_append, List.nil_append] at h
  simp only [List.drop_succ_cons, List.drop_zero, List.take_succ_cons, List.take_zero, AllMet] at h
  simp -implicitDefEqProofs only [met_unary, met_binary, met_nullary, TRef.toBuf, TRef.ofBuf, cast_cast, cast_eq, and_true] at h
  simp only [h, broadcastInDim_scal, scal_constantI, scal_xori]
  simp (disch := decide) only [addi_addi, host_shli, host_shrui, wordsOf, wordsFrom, roundsA, roundsB, mixRound_flip, inject, third, and_self]

set_option maxHeartbeats 40000000 in
theorem read_operands :
    X (Proc.devRef .tc main_v12) = concatenate S4 0 [⟨S2, keyA⟩, ⟨S2, keyB⟩] concatenates_S2_S2_S4_d0 ∧
    X (Proc.devRef .tc main_v15) = concatenate S2 0 [⟨S1, broadcast S1 (scal (X (Proc.devRef .tc main_arg1)))⟩,
      ⟨S1, broadcast S1 (scal (X (Proc.devRef .tc main_arg3)))⟩] concatenates_S1_S1_S2_d0 ∧
    X (Proc.devRef .tc main_v16) = shapeCast S8x128 (X (Proc.devRef .tc main_arg2)) shapeCasts_S1024_S8x128 := by
  have hs := read_split X h
  have h1 := h.slice 0 23
  have h2 := h.slice 245 12
  simp only [prefixLines, hostOps0, hostOps0_1, hostOps0_2, List.flatten_cons, List.flatten_nil, List.append_nil, List.cons_append, List.nil_append] at h1 h2
  simp only [List.drop_succ_cons, List.drop_zero, List.take_succ_cons, List.take_zero, AllMet] at h1 h2
  simp -implicitDefEqProofs only [met_unary, met_binary, met_nullary, met_reshape, TRef.toBuf, TRef.ofBuf, cast_cast, cast_eq, and_true] at h1 h2
  obtain ⟨a0, a1, a2, a3, a4, a5, a6, a7, a8, a9, h1⟩ := h1
  obtain ⟨e12, e13, e7, e8, e9, e10, e11, f12, f13, f14, f15, f16⟩ := h2
  have es : X (Proc.devRef .tc main_v6) = seed := by
    rw [a9, a4, a8, a3, a7, a2, a6, a0, a1, a5]
    rfl
  have ew : wordsOf (s := S2) (scal (X (Proc.devRef .tc main_call0_v1))) (scal (X (Proc.devRef .tc main_call0_v3)))
      (X (Proc.devRef .tc main_call0_v10)) (X (Proc.devRef .tc main_call0_v9)) = splitWords := by
    simp only [h1, es, splitWords, splitCounters, keyWord0, keyWord1]
    rfl
  have e : X (Proc.devRef .tc main_v7) = splitKeys := by
    rw [e7, e12, e13, hs.1, hs.2, ew]
    rfl
  have eA : X (Proc.devRef .tc main_v9) = keyA := by
    rw [e9, e8, e]
    rfl
  have eB : X (Proc.devRef .tc main_v11) = keyB := by
    rw [e11, e10, e]
    rfl
  refine ⟨?_, ?_, ?_⟩
  · rw [f12, eA, eB]
  · rw [f15, f13, f14, broadcastInDim_scal, broadcastInDim_scal]
  · rw [f16]
    rfl

end Calls

variable (m : (ℓ : Loc nD τ sig) → Buf (Elt F) ℓ)

/-- When the kernel starts. -/
theorem V_operands (c : Dev nD) :
    V m c main_v12 = concatenate S4 0 [⟨S2, keyA⟩, ⟨S2, keyB⟩] concatenates_S2_S2_S4_d0 ∧
    V m c main_v15 = concatenate S2 0 [⟨S1, broadcast S1 (scal (m ((c.tc : Thread nD τ).loc main_arg1)))⟩,
      ⟨S1, broadcast S1 (scal (m ((c.tc : Thread nD τ).loc main_arg3)))⟩] concatenates_S1_S1_S2_d0 ∧
    V m c main_v16 = shapeCast S8x128 (m ((c.tc : Thread nD τ).loc main_arg2)) shapeCasts_S1024_S8x128 := by
  have h := read_operands _ ((prefixLines_rising (F := F)).met fun b => m (c, b))
  have k1 := (prefixLines_rising (F := F)).kept (fun b => m (c, b)) (Proc.devRef .tc main_arg1) (by decide)
  have k2 := (prefixLines_rising (F := F)).kept (fun b => m (c, b)) (Proc.devRef .tc main_arg2) (by decide)
  have k3 := (prefixLines_rising (F := F)).kept (fun b => m (c, b)) (Proc.devRef .tc main_arg3) (by decide)
  rw [k1, k2, k3] at h
  exact h

end Cert.KernelIdeal.Value

end
-- ==== Proof.First.lean ====
/-
  The first place where a function of natural numbers is largest on a set: unique, and found part by part.
-/
module

public import proofs.«01_k».proof.Proof.Words

@[expose] public section

noncomputable section

namespace Cert.Proof

/-- On `S`, the largest value of `f` is `v`, first reached at `j`. -/
def Best (S : ℕ → Prop) (f : ℕ → EReal) (v : EReal) (j : ℕ) : Prop :=
  S j ∧ f j = v ∧ ∀ i, S i → f i < v ∨ (f i = v ∧ j ≤ i)

/-- The numbers from `a` up to `b`. -/
def Span (a b : ℕ) (i : ℕ) : Prop := a ≤ i ∧ i < b

theorem Best.unique {S : ℕ → Prop} {f : ℕ → EReal} {v w : EReal} {j k : ℕ} (h : Best S f v j) (h' : Best S f w k) : j = k := by
  obtain ⟨a, b, c⟩ := h
  obtain ⟨a', b', c'⟩ := h'
  rcases c k a' with d | d <;> rcases c' j a with e | e
  · exact absurd (b' ▸ d) (not_lt.mpr (b ▸ e).le)
  · rw [b', ← e.1, b] at d
    exact absurd d (lt_irrefl _)
  · rw [b, ← d.1, b'] at e
    exact absurd e (lt_irrefl _)
  · exact le_antisymm d.2 e.2

theorem Best.congr {S T : ℕ → Prop} {f : ℕ → EReal} {v : EReal} {j : ℕ} (h : Best S f v j) (e : ∀ i, S i ↔ T i) : Best T f v j :=
  ⟨(e j).mp h.1, h.2.1, fun i hi => h.2.2 i ((e i).mpr hi)⟩

theorem Best.single (f : ℕ → EReal) (n : ℕ) : Best (Span n (n + 1)) f (f n) n :=
  ⟨⟨le_rfl, Nat.lt_succ_self n⟩, rfl, fun i hi => .inr (by
    have : i = n := Nat.le_antisymm (Nat.lt_succ_iff.mp hi.2) hi.1
    exact this ▸ ⟨rfl, le_rfl⟩)⟩

/-- Of two neighbouring spans, the second where it is strictly greater, else the first. -/
theorem Best.join {a b c : ℕ} {f : ℕ → EReal} {v w : EReal} {j k : ℕ} (h : Best (Span a b) f v j) (h' : Best (Span b c) f w k) :
    Best (Span a c) f (if v < w then w else v) (if v < w then k else j) := by
  obtain ⟨⟨h1, h2⟩, h3, h4⟩ := h
  obtain ⟨⟨k1, k2⟩, k3, k4⟩ := h'
  split
  · next hlt =>
    refine ⟨⟨by omega, k2⟩, k3, fun i hi => ?_⟩
    by_cases hb : i < b
    · left
      rcases h4 i ⟨hi.1, hb⟩ with d | d
      · exact d.trans hlt
      · exact d.1 ▸ hlt
    · exact k4 i ⟨not_lt.mp hb, hi.2⟩
  · next hlt =>
    refine ⟨⟨h1, by omega⟩, h3, fun i hi => ?_⟩
    by_cases hb : i < b
    · exact h4 i ⟨hi.1, hb⟩
    · have hji : j ≤ i := by omega
      rcases k4 i ⟨not_lt.mp hb, hi.2⟩ with d | d
      · exact .inl (d.trans_le (not_lt.mp hlt))
      · rcases (d.1.trans_le (not_lt.mp hlt)).lt_or_eq with e | e
        · exact .inl e
        · exact .inr ⟨e, hji⟩

/-- What an accumulator started at −∞ and index 0 holds after the numbers below `n`. -/
def Acc (n : ℕ) (f : ℕ → EReal) (v : EReal) (j : ℕ) : Prop :=
  (n = 0 ∧ v = ⊥ ∧ j = 0) ∨ Best (Span 0 n) f v j

theorem Acc.join {n c : ℕ} {f : ℕ → EReal} {v w : EReal} {j k : ℕ} (h : Acc n f v j) (h' : Best (Span n c) f w k) :
    Acc c f (if v < w then w else v) (if v < w then k else j) := by
  rcases h with ⟨rfl, rfl, rfl⟩ | h
  · right
    split
    · exact h'
    · next hw =>
      have hb : w = ⊥ := le_bot_iff.mp (not_lt.mp hw)
      subst hb
      obtain ⟨h1, h2, h3⟩ := h'
      have h0 : Span 0 c 0 := ⟨le_rfl, lt_of_le_of_lt (Nat.zero_le _) h1.2⟩
      refine ⟨h0, ?_, fun i hi => .inr ⟨?_, Nat.zero_le _⟩⟩
      · exact (h3 0 h0).elim (fun h => absurd h not_lt_bot) And.left
      · exact (h3 i hi).elim (fun h => absurd h not_lt_bot) And.left
  · exact .inr (h.join h')

/-- Over sets that parts cover: the largest of the parts' values, at the least of the places where a part has it. -/
theorem Best.parts {L : Type} {S : L → ℕ → Prop} {f : ℕ → EReal} {v : L → EReal} {c : L → ℕ} (h : ∀ l, Best (S l) f (v l) (c l))
    {m : EReal} {j : ℕ} (hm : ∀ l, v l ≤ m) (hj : ∃ l, v l = m ∧ c l = j) (hl : ∀ l, v l = m → j ≤ c l) :
    Best (fun i => ∃ l, S l i) f m j := by
  obtain ⟨l, rfl, rfl⟩ := hj
  refine ⟨⟨l, (h l).1⟩, (h l).2.1, ?_⟩
  rintro i ⟨k, hk⟩
  rcases (h k).2.2 i hk with d | d
  · exact .inl (d.trans_le (hm k))
  · rcases (d.1.trans_le (hm k)).lt_or_eq with e | e
    · exact .inl e
    · exact .inr ⟨e, (hl k (d.1.symm.trans e)).trans d.2⟩

/-- A lane's blocks: block `b` of lane `l` is the number `b · w + l`. -/
theorem Best.lane {w n l : ℕ} (hl : l < w) {f : ℕ → EReal} {v : EReal} {j : ℕ} (h : Best (Span 0 n) (fun b => f (b * w + l)) v j) :
    Best (fun i => i < n * w ∧ i % w = l) f v (j * w + l) := by
  obtain ⟨⟨_, h1⟩, h2, h3⟩ := h
  have hw : 0 < w := lt_of_le_of_lt (Nat.zero_le _) hl
  refine ⟨⟨?_, ?_⟩, h2, ?_⟩
  · calc j * w + l < j * w + w := by omega
      _ = (j + 1) * w := by ring
      _ ≤ n * w := Nat.mul_le_mul_right w h1
  · rw [Nat.mul_comm, Nat.mul_add_mod, Nat.mod_eq_of_lt hl]
  · rintro i ⟨hi, rfl⟩
    have e : i / w * w + i % w = i := by rw [Nat.mul_comm]; exact Nat.div_add_mod i w
    have hlt : i / w < n := Nat.div_lt_of_lt_mul (by rw [Nat.mul_comm]; exact hi)
    have := h3 (i / w) ⟨Nat.zero_le _, hlt⟩
    simp only [e] at this
    rcases this with d | d
    · exact .inl d
    · refine .inr ⟨d.1, ?_⟩
      calc j * w + i % w ≤ i / w * w + i % w := Nat.add_le_add_right (Nat.mul_le_mul_right w d.2) _
        _ = i := e

end Cert.Proof

end
-- ==== Proof.Score.lean ====
/-
  The generator and the perturbed logits one element at a time.
-/
module

public import proofs.«01_k».proof.Proof.HostWords
public import Idealize.ShloMosaic.PureOps.Ideal.Laws

@[expose] public section

noncomputable section

namespace Cert.Proof

open Idealize.ShloMosaic

/-- One round on a pair of words. -/
def mix (a b : BitVec 32) (p : BitVec 32 × BitVec 32) : BitVec 32 × BitVec 32 :=
  (IntOp.addi p.1 p.2, IntOp.xori (IntOp.ori (IntOp.shli .vector p.2 a) (IntOp.shrui .vector p.2 b)) (IntOp.addi p.1 p.2))

def mixA (p : BitVec 32 × BitVec 32) : BitVec 32 × BitVec 32 :=
  mix 6#32 26#32 (mix 26#32 6#32 (mix 15#32 17#32 (mix 13#32 19#32 p)))
def mixB (p : BitVec 32 × BitVec 32) : BitVec 32 × BitVec 32 :=
  mix 24#32 8#32 (mix 16#32 16#32 (mix 29#32 3#32 (mix 17#32 15#32 p)))
def add2 (x y : BitVec 32) (p : BitVec 32 × BitVec 32) : BitVec 32 × BitVec 32 := (IntOp.addi p.1 x, IntOp.addi p.2 y)

/-- The generator on a pair of words. -/
def mixAll (k0 k1 k2 : BitVec 32) (p : BitVec 32 × BitVec 32) : BitVec 32 × BitVec 32 :=
  add2 k2 (Scalar.addi k0 5#32) (mixA
    (add2 k1 (Scalar.addi k2 4#32) (mixB
      (add2 k0 (Scalar.addi k1 3#32) (mixA
        (add2 k2 (Scalar.addi k0 2#32) (mixB
          (add2 k1 (Scalar.addi k2 1#32) (mixA p)))))))))

/-- The random word of counter `x`, the second key word added to it already. -/
def word (k0 k1 k2 x : BitVec 32) : BitVec 32 :=
  IntOp.xori (mixAll k0 k1 k2 (k0, x)).1 (mixAll k0 k1 k2 (k0, x)).2

/-- A pair of vectors at one index. -/
def at2 {s : Shape} (p : IVec s 32 × IVec s 32) (i : s.Idx) : BitVec 32 × BitVec 32 := (p.1 i, p.2 i)

theorem at2_mix {s : Shape} (a b : BitVec 32) (p : IVec s 32 × IVec s 32) (i : s.Idx) :
    at2 (mixRound a b p) i = mix a b (at2 p i) := rfl
theorem at2_inject {s : Shape} (a b : BitVec 32) (p : IVec s 32 × IVec s 32) (i : s.Idx) :
    at2 (inject a b p) i = add2 a b (at2 p i) := rfl
theorem at2_roundsA {s : Shape} (p : IVec s 32 × IVec s 32) (i : s.Idx) : at2 (roundsA p) i = mixA (at2 p i) := by
  simp only [roundsA, mixA, at2_mix]
theorem at2_roundsB {s : Shape} (p : IVec s 32 × IVec s 32) (i : s.Idx) : at2 (roundsB p) i = mixB (at2 p i) := by
  simp only [roundsB, mixB, at2_mix]
theorem at2_wordsFrom {s : Shape} (k0 k1 k2 : BitVec 32) (p : IVec s 32 × IVec s 32) (i : s.Idx) :
    at2 (wordsFrom k0 k1 k2 p) i = mixAll k0 k1 k2 (at2 p i) := by
  simp only [wordsFrom, mixAll, at2_inject, at2_roundsA, at2_roundsB]

theorem bits_apply {s : Shape} (k0 k1 k2 : BitVec 32) (x : IVec s 32) (i : s.Idx) : bits k0 k1 k2 x i = word k0 k1 k2 (x i) := by
  have h := at2_wordsFrom k0 k1 k2 (broadcast s k0, x) i
  have h1 : (wordsFrom k0 k1 k2 (broadcast s k0, x)).1 i = (mixAll k0 k1 k2 (k0, x i)).1 := congrArg Prod.fst h
  have h2 : (wordsFrom k0 k1 k2 (broadcast s k0, x)).2 i = (mixAll k0 k1 k2 (k0, x i)).2 := congrArg Prod.snd h
  show IntOp.xori ((words k0 k1 k2 x).1 i) ((words k0 k1 k2 x).2 i) = _
  rw [words_eq, h1, h2]
  rfl

/-- On a host counter whose upper half is zero. -/
theorem wordsOf_apply {s : Shape} (k0 k1 : BitVec 32) (hi lo : IVec s 32) (i : s.Idx) (h0 : hi i = 0#32) :
    xori (wordsOf k0 k1 hi lo).1 (wordsOf k0 k1 hi lo).2 i = word k0 k1 (third k0 k1) (IntOp.addi (lo i) k1) := by
  have h := at2_wordsFrom k0 k1 (third k0 k1) (addi hi (broadcast s k0), addi lo (broadcast s k1)) i
  have e : at2 (addi hi (broadcast s k0), addi lo (broadcast s k1)) i = (k0, IntOp.addi (lo i) k1) := by
    show (IntOp.addi (hi i) k0, IntOp.addi (lo i) k1) = _
    rw [h0]
    simp only [IntOp.addi, BitVec.zero_add]
  rw [e] at h
  have h1 : (wordsOf k0 k1 hi lo).1 i = (mixAll k0 k1 (third k0 k1) (k0, IntOp.addi (lo i) k1)).1 := congrArg Prod.fst h
  have h2 : (wordsOf k0 k1 hi lo).2 i = (mixAll k0 k1 (third k0 k1) (k0, IntOp.addi (lo i) k1)).2 := congrArg Prod.snd h
  show IntOp.xori ((wordsOf k0 k1 hi lo).1 i) ((wordsOf k0 k1 hi lo).2 i) = _
  rw [h1, h2]
  rfl

/-- The uniform number of a random word, in the extended reals. -/
def unif (b : BitVec 32) : EReal :=
  Ideal.ofBits .f32 (IntOp.ori (IntOp.shrui .vector b 9#32) 1065353216#32) - Ideal.ofBits .f32 0x3F800000#32

/-- The perturbed logit. -/
def score (l : EReal) (b : BitVec 32) : EReal :=
  l - Ideal.log (-Ideal.log (max (Ideal.ofBits .f32 0x00800000#32) (unif b)))

theorem perturbed_apply {s : Shape} (k0 k1 k2 : BitVec 32) (l : FVec Ideal s .f32) (x : IVec s 32) (i : s.Idx) :
    perturbed k0 k1 k2 l x i = score (l i) (word k0 k1 k2 (x i)) := by
  have e : perturbed k0 k1 k2 l x i = l i - Ideal.log (Ideal.ofBits .f32 0x00000000#32 - Ideal.log (max (Ideal.ofBits .f32 0x00800000#32)
      (Ideal.ofBits .f32 (IntOp.ori (IntOp.shrui .vector (bits k0 k1 k2 x i) 9#32) 1065353216#32) - Ideal.ofBits .f32 0x3F800000#32))) := rfl
  rw [e, bits_apply, Ideal.ofBits_zero_f32, zero_sub]
  rfl

end Cert.Proof

end
-- ==== Proof.RowScore.lean ====
/-
  A row of perturbed logits as a function of the column: what both programs take the first largest of.
-/
module

public import proofs.«01_k».proof.Proof.Score
public import Idealize.ShloMosaic.Lib.Pipeline.Value

@[expose] public section

noncomputable section

namespace Cert.Proof

open Idealize.ShloMosaic

/-- A row's perturbed logits: `x` the row's logits, `R` its number, `s` the draw. -/
def rowScore (k0 k1 : BitVec 32) (t : EReal) (x : ℕ → EReal) (s R c : ℕ) : EReal :=
  score (x c * t) (word k0 k1 (third k0 k1) (IntOp.addi (BitVec.ofNat 32 (102400000 * s + 100000 * R + c)) k1))

theorem counter_add (A B : ℕ) (k : BitVec 32) :
    IntOp.addi (IntOp.addi (BitVec.ofNat 32 A) k) (BitVec.ofNat 32 B) = IntOp.addi (BitVec.ofNat 32 (A + B)) k := by
  simp only [IntOp.addi, BitVec.ofNat_add]
  ac_rfl

/-- A matrix's row by column, zero outside it. -/
def rowOf (x : FVec Ideal ⟨2, ![1024, 100000]⟩ .f32) (R c : ℕ) : EReal :=
  if h : R < 1024 ∧ c < 100000 then x (fun a => match a with | ⟨0, _⟩ => ⟨R, h.1⟩ | ⟨1, _⟩ => ⟨c, h.2⟩) else 0

theorem rowOf_eq (x : FVec Ideal ⟨2, ![1024, 100000]⟩ .f32) (i : (⟨2, ![1024, 100000]⟩ : Shape).Idx) {R c : ℕ} (hR : (i 0).val = R)
    (hc : (i 1).val = c) : x i = rowOf x R c := by
  subst hR hc
  have h0 : (i 0).val < 1024 := (i 0).isLt
  have h1 : (i 1).val < 100000 := (i 1).isLt
  unfold rowOf
  rw [dif_pos ⟨h0, h1⟩]
  congr 1
  funext a
  match a with
  | ⟨0, _⟩ => rfl
  | ⟨1, _⟩ => rfl

end Cert.Proof

end
-- ==== Proof.Lanes.lean ====
/-
  The kernel's lanes over the extended reals: each candidate is a lane's score at a block, the tournament keeps the first
  largest, and a trip of the loop carries the lane's first largest over all blocks so far.
-/
module

public import proofs.«01_k».proof.Proof.First
public import proofs.«01_k».proof.Proof.RowScore
public import proofs.«01_k».proof.Proof.Trip

@[expose] public section

noncomputable section

namespace Cert.Proof

open Idealize.ShloMosaic

/-- A lane's pair is the first largest on a span, or on everything below `n` from the starting pair. -/
def Holds {s : Shape} (a b : ℕ) (g : ℕ → EReal) (p : FVec Ideal s .f32 × IVec s 32) (i : s.Idx) : Prop :=
  ∃ j, p.2 i = BitVec.ofNat 32 j ∧ Best (Span a b) g (p.1 i) j
def HoldsAcc {s : Shape} (n : ℕ) (g : ℕ → EReal) (p : FVec Ideal s .f32 × IVec s 32) (i : s.Idx) : Prop :=
  ∃ j, p.2 i = BitVec.ofNat 32 j ∧ Acc n g (p.1 i) j

theorem select_gt {s : Shape} {α : Type} (x y : FVec Ideal s .f32) (a b : s.Idx → α) (i : s.Idx) :
    select (cmpf .ogt x y) a b i = if y i < x i then a i else b i := by
  show (if BitVec.ofBool (decide (y i < x i)) = 1#1 then a i else b i) = _
  by_cases h : y i < x i <;> simp [h]

theorem Holds.better {s : Shape} {a b c : ℕ} {g : ℕ → EReal} {p q : FVec Ideal s .f32 × IVec s 32} {i : s.Idx}
    (h : Holds a b g p i) (h' : Holds b c g q i) : Holds a c g (better p q) i := by
  obtain ⟨j, hj, h⟩ := h
  obtain ⟨k, hk, h'⟩ := h'
  refine ⟨if p.1 i < q.1 i then k else j, ?_, ?_⟩
  · simp only [Proof.better, select_gt, hj, hk]
    split <;> rfl
  · simp only [Proof.better, select_gt]
    exact h.join h'

theorem HoldsAcc.better {s : Shape} {n c : ℕ} {g : ℕ → EReal} {p q : FVec Ideal s .f32 × IVec s 32} {i : s.Idx}
    (h : HoldsAcc n g p i) (h' : Holds n c g q i) : HoldsAcc c g (better p q) i := by
  obtain ⟨j, hj, h⟩ := h
  obtain ⟨k, hk, h'⟩ := h'
  refine ⟨if p.1 i < q.1 i then k else j, ?_, ?_⟩
  · simp only [Proof.better, select_gt, hj, hk]
    split <;> rfl
  · simp only [Proof.better, select_gt]
    exact h.join h'

theorem Holds.best8 {s : Shape} {n : ℕ} {g : ℕ → EReal} {p0 p1 p2 p3 p4 p5 p6 p7 : FVec Ideal s .f32 × IVec s 32} {i : s.Idx}
    (h0 : Holds n (n + 1) g p0 i) (h1 : Holds (n + 1) (n + 2) g p1 i) (h2 : Holds (n + 2) (n + 3) g p2 i) (h3 : Holds (n + 3) (n + 4) g p3 i)
    (h4 : Holds (n + 4) (n + 5) g p4 i) (h5 : Holds (n + 5) (n + 6) g p5 i) (h6 : Holds (n + 6) (n + 7) g p6 i) (h7 : Holds (n + 7) (n + 8) g p7 i) :
    Holds n (n + 8) g (best8 p0 p1 p2 p3 p4 p5 p6 p7) i :=
  ((h0.better h1).better (h2.better h3)).better ((h4.better h5).better (h6.better h7))

end Cert.Proof

namespace Cert.KernelIdeal.Value

open Cert.KernelIdeal.Gen Cert.Proof
open Idealize.ShloMosaic

/-- A lane's scores by block. -/
def laneScore (k0 k1 : BitVec 32) (t : EReal) (x : ℕ → EReal) (s R l b : ℕ) : EReal := rowScore k0 k1 t x s R (b * 1024 + l)

variable {k0 k1 : BitVec 32} {t : EReal} {x : ℕ → EReal} {R l n : ℕ} {q : S8x1024.Idx}

/-- A candidate of the first draw. -/
theorem cand0_holds {v : IVec S8x1024 32} {L : FVec Ideal S8x1024 .f32} (u : ℕ) (hv : v q = IntOp.addi (BitVec.ofNat 32 (100000 * R + (n * 1024 + l))) k1)
    (hL : L q = x ((n + u) * 1024 + l)) :
    Holds (n + u) (n + u + 1) (laneScore k0 k1 t x 0 R l)
      (cand0 t k0 k1 (third k0 k1) (BitVec.ofNat 32 n) v (BitVec.ofNat 32 u) (BitVec.ofNat 32 (u * 1024)) L) q := by
  refine ⟨n + u, ?_, ?_⟩
  · exact (BitVec.ofNat_add n u).symm
  · have e : (cand0 t k0 k1 (third k0 k1) (BitVec.ofNat 32 n) v (BitVec.ofNat 32 u) (BitVec.ofNat 32 (u * 1024)) L).1 q
        = laneScore k0 k1 t x 0 R l (n + u) := by
      unfold cand0
      dsimp only
      rw [perturbed_apply]
      show score (L q * t) (word k0 k1 (third k0 k1) (IntOp.addi (v q) (BitVec.ofNat 32 (u * 1024)))) = _
      rw [hv, counter_add, hL]
      unfold laneScore rowScore
      rw [show 100000 * R + (n * 1024 + l) + u * 1024 = 102400000 * 0 + 100000 * R + ((n + u) * 1024 + l) by ring]
    rw [e]
    exact Best.single _ _

/-- A candidate of the second. -/
theorem cand1_holds {v : IVec S8x1024 32} {L : FVec Ideal S8x1024 .f32} (u : ℕ) (hv : v q = IntOp.addi (BitVec.ofNat 32 (100000 * R + (n * 1024 + l))) k1)
    (hL : L q = x ((n + u) * 1024 + l)) :
    Holds (n + u) (n + u + 1) (laneScore k0 k1 t x 1 R l)
      (cand1 t k0 k1 (third k0 k1) (BitVec.ofNat 32 n) v (BitVec.ofNat 32 u) (BitVec.ofNat 32 (u * 1024)) L) q := by
  refine ⟨n + u, ?_, ?_⟩
  · exact (BitVec.ofNat_add n u).symm
  · have e : (cand1 t k0 k1 (third k0 k1) (BitVec.ofNat 32 n) v (BitVec.ofNat 32 u) (BitVec.ofNat 32 (u * 1024)) L).1 q
        = laneScore k0 k1 t x 1 R l (n + u) := by
      unfold cand1
      dsimp only
      rw [perturbed_apply]
      show score (L q * t) (word k0 k1 (third k0 k1) (IntOp.addi (IntOp.addi (v q) (BitVec.ofNat 32 (u * 1024))) (BitVec.ofNat 32 102400000))) = _
      rw [hv, counter_add, counter_add, hL]
      unfold laneScore rowScore
      rw [show 100000 * R + (n * 1024 + l) + u * 1024 + 102400000 = 102400000 * 1 + 100000 * R + ((n + u) * 1024 + l) by ring]
    rw [e]
    exact Best.single _ _

/-- What the loop carries after the blocks below `n`, at one lane. -/
def Carried (k0 k1 : BitVec 32) (t : EReal) (x : ℕ → EReal) (R l n : ℕ) (a : Carry Ideal) (q : S8x1024.Idx) : Prop :=
  a.1 q = IntOp.addi (BitVec.ofNat 32 (100000 * R + (n * 1024 + l))) k1 ∧
    HoldsAcc n (laneScore k0 k1 t x 0 R l) (a.2.1, a.2.2.1) q ∧ HoldsAcc n (laneScore k0 k1 t x 1 R l) (a.2.2.2.1, a.2.2.2.2) q

/-- One trip. -/
theorem Carried.trip {a : Carry Ideal} {j : BitVec 32} {L : Fin 8 → FVec Ideal S8x1024 .f32} (h : Carried k0 k1 t x R l n a q)
    (hj : j = BitVec.ofNat 32 n) (hL : ∀ u : Fin 8, L u q = x ((n + u.val) * 1024 + l)) :
    Carried k0 k1 t x R l (n + 8) (tripVal t k0 k1 (third k0 k1) j (L 0) (L 1) (L 2) (L 3) (L 4) (L 5) (L 6) (L 7) a) q := by
  subst hj
  obtain ⟨hv, h0, h1⟩ := h
  refine ⟨?_, ?_, ?_⟩
  · show IntOp.addi (a.1 q) (BitVec.ofNat 32 8192) = _
    rw [hv, counter_add]
    congr 2
    ring
  · exact h0.better (Holds.best8 (cand0_holds 0 hv (hL 0)) (cand0_holds 1 hv (hL 1)) (cand0_holds 2 hv (hL 2)) (cand0_holds 3 hv (hL 3))
      (cand0_holds 4 hv (hL 4)) (cand0_holds 5 hv (hL 5)) (cand0_holds 6 hv (hL 6)) (cand0_holds 7 hv (hL 7)))
  · exact h1.better (Holds.best8 (cand1_holds 0 hv (hL 0)) (cand1_holds 1 hv (hL 1)) (cand1_holds 2 hv (hL 2)) (cand1_holds 3 hv (hL 3))
      (cand1_holds 4 hv (hL 4)) (cand1_holds 5 hv (hL 5)) (cand1_holds 6 hv (hL 6)) (cand1_holds 7 hv (hL 7)))

end Cert.KernelIdeal.Value

end
-- ==== Proof.RowFirst.lean ====
/-
  A row's maximum and the least index among its places, read from the two reductions; and the host's arg-max fold.
-/
module

public import proofs.«01_k».proof.Proof.First
public import Idealize.ShloMosaic.PureOps.Ideal.Laws
public import Idealize.ShloMosaic.PureOps.Reduce

@[expose] public section

noncomputable section

namespace Cert.Proof

open Idealize.ShloMosaic

theorem ofBits_ninf : Ideal.ofBits .f32 0xFF800000#32 = ⊥ := by
  simp [Ideal.ofBits, Ideal.ieee]

theorem fold_max {n : ℕ} (hn : 0 < n) (g : Fin n → EReal) :
    (∀ k, g k ≤ Finset.univ.fold max ⊥ g) ∧ ∃ k, g k = Finset.univ.fold max ⊥ g := by
  have h1 : ∀ k, g k ≤ Finset.univ.fold max ⊥ g := fun k =>
    Finset.le_fold_max (g k) |>.mpr (.inr ⟨k, Finset.mem_univ k, le_rfl⟩)
  refine ⟨h1, ?_⟩
  rcases (Finset.le_fold_max _).mp (le_refl (Finset.univ.fold max ⊥ g)) with h | ⟨k, _, h⟩
  · exact ⟨⟨0, hn⟩, le_antisymm (h1 _) (h.trans bot_le)⟩
  · exact ⟨k, le_antisymm (h1 k) h⟩

theorem fold_min {L : Type} [DecidableEq L] (init : BitVec 32) (g : L → BitVec 32) (S : Finset L) :
    (S.fold IntOp.minsi init g = init ∨ ∃ k ∈ S, S.fold IntOp.minsi init g = g k) ∧
      ∀ k ∈ S, (S.fold IntOp.minsi init g).toInt ≤ (g k).toInt := by
  induction S using Finset.induction_on with
  | empty => exact ⟨.inl (Finset.fold_empty ..), fun k hk => absurd hk (Finset.notMem_empty k)⟩
  | insert a S ha ih =>
    rw [Finset.fold_insert ha]
    generalize S.fold IntOp.minsi init g = y at ih
    have e : (IntOp.minsi (g a) y = g a ∨ IntOp.minsi (g a) y = y) ∧ (IntOp.minsi (g a) y).toInt ≤ (g a).toInt ∧
        (IntOp.minsi (g a) y).toInt ≤ y.toInt := by
      simp only [IntOp.minsi, BitVec.slt, decide_eq_true_eq]
      split_ifs with hlt
      · exact ⟨.inl rfl, le_rfl, hlt.le⟩
      · exact ⟨.inr rfl, not_lt.mp hlt, le_rfl⟩
    refine ⟨?_, ?_⟩
    · rcases e.1 with e1 | e1
      · exact .inr ⟨a, Finset.mem_insert_self a S, e1⟩
      · rcases ih.1 with h | ⟨k, hk, h⟩
        · exact .inl (e1.trans h)
        · exact .inr ⟨k, Finset.mem_insert_of_mem hk, e1.trans h⟩
    · intro k hk
      rcases Finset.mem_insert.mp hk with rfl | hk
      · exact e.2.1
      · exact e.2.2.trans (ih.2 k hk)

theorem toInt_ofNat {c : ℕ} (h : c < 2147483647) : (BitVec.ofNat 32 c).toInt = c := by
  rw [BitVec.toInt_eq_toNat_of_lt] <;> rw [BitVec.toNat_ofNat, Nat.mod_eq_of_lt (by omega)]
  omega

/-- A row of lanes, each the first place of its own set: the row's maximum and the least index among the lanes holding it
    are the first place of all. -/
theorem row_first {s t : Shape} {a : Fin s.rank} (hs : s.Reduces [a] t) (hw : 0 < s.size a) (v mm : FVec Ideal s .f32) (x : IVec s 32)
    (j : t.Idx) (hm : ∀ k, mm (hs.lift j k) = multiReduction .maximumf [a] t v 0xFF800000#32 hs (.inl rfl) rfl j)
    (S : Fin (s.size a) → ℕ → Prop) (f : ℕ → EReal) (c : Fin (s.size a) → ℕ) (hx : ∀ k, x (hs.lift j k) = BitVec.ofNat 32 (c k))
    (hc : ∀ k, c k < 2147483647) (hb : ∀ k, Best (S k) f (v (hs.lift j k)) (c k)) :
    ∃ i, multiReductionI .minsi [a] t (select (cmpf .oeq v mm) x (broadcast s 2147483647#32)) 2147483647#32 hs rfl j = BitVec.ofNat 32 i ∧
      Best (fun n => ∃ k, S k n) f (multiReduction .maximumf [a] t v 0xFF800000#32 hs (.inl rfl) rfl j) i := by
  classical
  have eM : multiReduction .maximumf [a] t v 0xFF800000#32 hs (.inl rfl) rfl j = Finset.univ.fold max ⊥ (v ∘ hs.lift j) :=
    (Ideal.multiReduction_maximumf_single v 0xFF800000#32 hs (.inl rfl) rfl j).trans
      (congrArg (fun z => Finset.univ.fold max z (v ∘ hs.lift j)) ofBits_ninf)
  have eI : multiReductionI .minsi [a] t (select (cmpf .oeq v mm) x (broadcast s 2147483647#32)) 2147483647#32 hs rfl j
      = Finset.univ.fold IntOp.minsi 2147483647#32 (select (cmpf .oeq v mm) x (broadcast s 2147483647#32) ∘ hs.lift j) :=
    (multiReductionI_eq_fold _ _ _ _ _ _).trans (hs.fold_filter_drop_single IntOp.minsi _ _ j)
  generalize multiReduction .maximumf [a] t v 0xFF800000#32 hs (.inl rfl) rfl j = M at *
  rw [eI]
  obtain ⟨m1, k0, m2⟩ := fold_max hw (v ∘ hs.lift j)
  rw [← eM] at m1 m2
  simp only [Function.comp_apply] at m1 m2
  have hsel : ∀ k, (select (cmpf .oeq v mm) x (broadcast s 2147483647#32) ∘ hs.lift j) k
      = if v (hs.lift j k) = M then BitVec.ofNat 32 (c k) else 2147483647#32 := by
    intro k
    show (if BitVec.ofBool (decide (v (hs.lift j k) = mm (hs.lift j k))) = 1#1 then x (hs.lift j k) else 2147483647#32) = _
    rw [hm k, hx k]
    by_cases h : v (hs.lift j k) = M <;> simp [h]
  obtain ⟨i1, i2⟩ := fold_min 2147483647#32 (select (cmpf .oeq v mm) x (broadcast s 2147483647#32) ∘ hs.lift j) Finset.univ
  generalize Finset.univ.fold IntOp.minsi 2147483647#32 (select (cmpf .oeq v mm) x (broadcast s 2147483647#32) ∘ hs.lift j) = I at *
  have h0 : I.toInt ≤ c k0 := by
    have := i2 k0 (Finset.mem_univ _)
    rw [hsel k0, if_pos m2, toInt_ofNat (hc k0)] at this
    exact this
  have hI : I ≠ 2147483647#32 := by
    rintro rfl
    have h1 : (2147483647#32 : BitVec 32).toInt = 2147483647 := by decide
    have := hc k0
    omega
  obtain ⟨k, hk, hv⟩ : ∃ k, I = BitVec.ofNat 32 (c k) ∧ v (hs.lift j k) = M := by
    rcases i1 with h | ⟨k, _, h⟩
    · exact absurd h hI
    · rw [hsel k] at h
      by_cases hv : v (hs.lift j k) = M
      · exact ⟨k, by rw [if_pos hv] at h; exact h, hv⟩
      · rw [if_neg hv] at h
        exact absurd h hI
  refine ⟨c k, hk, Best.parts hb m1 ⟨k, hv, rfl⟩ ?_⟩
  intro l hl
  have := i2 l (Finset.mem_univ _)
  rw [hsel l, if_pos hl, hk, toInt_ofNat (hc k), toInt_ofNat (hc l)] at this
  exact_mod_cast this

end Cert.Proof

end
-- ==== Proof.Column.lean ====
/-
  A column of the kernel's samples over the extended reals: from lanes that each hold the first largest of their own
  columns, the block after them and the tail, the first largest of the row.
-/
module

public import proofs.«01_k».proof.Proof.Block
public import proofs.«01_k».proof.Proof.Lanes
public import proofs.«01_k».proof.Proof.RowFirst
public import Idealize.ShloMosaic.Lib.Pipeline.Value

@[expose] public section

set_option maxRecDepth 16384

noncomputable section

namespace Cert.KernelIdeal.Value

open Cert.KernelIdeal.Gen Cert.Proof
open Idealize.ShloMosaic

theorem cast_column {α : Type} (v : S8.Idx → α) (q : S8x1.Idx) (j : S8.Idx) (h : (q 0).val = (j 0).val) :
    shapeCast S8x1 v shapeCasts_S8_S8x1 q = v j := by
  refine shapeCast_apply v _ q j ?_
  have h1 : (q 1).val < 1 := (q 1).isLt
  rw [Shape.rowMajor_val_one, Shape.rowMajor_val_two]
  show (j 0).val = (q 0).val * 1 + (q 1).val
  omega

theorem uncast_column {α : Type} (v : S8x1.Idx → α) (j : S8.Idx) :
    shapeCast S8 v shapeCasts_S8x1_S8 j = v (fun a => match a with | ⟨0, _⟩ => j 0 | ⟨1, _⟩ => ⟨0, Nat.one_pos⟩) := by
  refine shapeCast_apply v _ j _ ?_
  rw [Shape.rowMajor_val_one, Shape.rowMajor_val_two]
  show (j 0).val * 1 + 0 = (j 0).val
  omega

/-- A column spread over its row reads the row's entry. -/
theorem top_lane (v : FVec Ideal S8x1024 .f32) (j : S8.Idx) (k : Fin 1024) :
    broadcastTo S8x1024 (top v) broadcasts_S8x1_S8x1024 (reduces_S8x1024_S8.lift j k)
      = multiReduction .maximumf [1] S8 v 0xFF800000#32 reduces_S8x1024_S8 (.inl rfl) rfl j := by
  refine (broadcastTo_apply (top v) _ _ (fun a => match a with | ⟨0, _⟩ => j 0 | ⟨1, _⟩ => ⟨0, Nat.one_pos⟩) ?_).trans (cast_column _ _ _ rfl)
  intro a
  match a with
  | ⟨0, _⟩ => rfl
  | ⟨1, _⟩ => rfl

theorem top_laneT (v : FVec Ideal S8x672 .f32) (j : S8.Idx) (k : Fin 672) :
    broadcastTo S8x672 (topT v) broadcasts_S8x1_S8x672 (reduces_S8x672_S8.lift j k)
      = multiReduction .maximumf [1] S8 v 0xFF800000#32 reduces_S8x672_S8 (.inl rfl) rfl j := by
  refine (broadcastTo_apply (topT v) _ _ (fun a => match a with | ⟨0, _⟩ => j 0 | ⟨1, _⟩ => ⟨0, Nat.one_pos⟩) ?_).trans (cast_column _ _ _ rfl)
  intro a
  match a with
  | ⟨0, _⟩ => rfl
  | ⟨1, _⟩ => rfl

/-- A row's largest value, as `pick` reads it. -/
theorem top_row (v : FVec Ideal S8x1024 .f32) (j : S8.Idx) : shapeCast S8 (top v) shapeCasts_S8x1_S8 j
    = multiReduction .maximumf [1] S8 v 0xFF800000#32 reduces_S8x1024_S8 (.inl rfl) rfl j :=
  (uncast_column (top v) j).trans (cast_column _ _ _ rfl)
theorem top_rowT (v : FVec Ideal S8x672 .f32) (j : S8.Idx) : shapeCast S8 (topT v) shapeCasts_S8x1_S8 j
    = multiReduction .maximumf [1] S8 v 0xFF800000#32 reduces_S8x672_S8 (.inl rfl) rfl j :=
  (uncast_column (topT v) j).trans (cast_column _ _ _ rfl)

/-- The row's entry at a lane. -/
abbrev lane (j : S8.Idx) (k : Fin 1024) : S8x1024.Idx := reduces_S8x1024_S8.lift j k
abbrev laneT (j : S8.Idx) (k : Fin 672) : S8x672.Idx := reduces_S8x672_S8.lift j k

variable {f : ℕ → EReal} {j : S8.Idx}

theorem ofNat_add_lit (a b : ℕ) : IntOp.addi (BitVec.ofNat 32 a) (BitVec.ofNat 32 b) = BitVec.ofNat 32 (a + b) := (BitVec.ofNat_add a b).symm

theorem best_single (n : ℕ) {v : EReal} (h : v = f n) : Best (Span n (n + 1)) f v n := h ▸ Best.single f n

/-- The loop's lanes. -/
theorem first_loop (vm : FVec Ideal S8x1024 .f32) (jm : IVec S8x1024 32)
    (hl : ∀ l : Fin 1024, Holds 0 96 (fun b => f (b * 1024 + l.val)) (vm, jm) (lane j l)) :
    ∃ i, firstAt vm (addi (muli jm (broadcast S8x1024 1024#32)) (iota .tc S8x1024 32 [1] iota_S8x1024_d1_w32)) j = BitVec.ofNat 32 i ∧
      Best (Span 0 98304) f (shapeCast S8 (top vm) shapeCasts_S8x1_S8 j) i := by
  choose c hc hb using hl
  have hlt : ∀ l, c l < 96 := fun l => (hb l).1.2
  rw [top_row]
  obtain ⟨i, hi, h⟩ := row_first reduces_S8x1024_S8 (by decide) vm (broadcastTo S8x1024 (top vm) broadcasts_S8x1_S8x1024)
    (addi (muli jm (broadcast S8x1024 1024#32)) (iota .tc S8x1024 32 [1] iota_S8x1024_d1_w32)) j (top_lane vm j)
    (fun l n => n < 96 * 1024 ∧ n % 1024 = l.val) f (fun l => c l * 1024 + l.val)
    (by
      intro l
      have e : addi (muli jm (broadcast S8x1024 1024#32)) (iota .tc S8x1024 32 [1] iota_S8x1024_d1_w32) (reduces_S8x1024_S8.lift j l)
          = jm (lane j l) * 1024#32 + iota .tc S8x1024 32 [1] iota_S8x1024_d1_w32 (lane j l) := rfl
      have e1 : iota .tc S8x1024 32 [1] iota_S8x1024_d1_w32 (lane j l) = BitVec.ofNat 32 l.val := iota_single_apply _ _ _ _ _ _
      have e2 : jm (lane j l) = BitVec.ofNat 32 (c l) := hc l
      rw [e, e1, e2, BitVec.ofNat_add, BitVec.ofNat_mul])
    (fun l => by have := hlt l; have := l.isLt; show c l * 1024 + l.val < 2147483647; have : l.val < 1024 := l.isLt; omega)
    (fun l => Best.lane l.isLt (hb l))
  refine ⟨i, hi, h.congr fun n => ⟨?_, ?_⟩⟩
  · rintro ⟨l, h1, h2⟩
    exact ⟨Nat.zero_le _, h1⟩
  · rintro ⟨_, h2⟩
    exact ⟨⟨n % 1024, Nat.mod_lt _ (by decide)⟩, h2, rfl⟩

/-- The block after them. -/
theorem first_block (vx : FVec Ideal S8x1024 .f32) (hx : ∀ l : Fin 1024, vx (lane j l) = f (98304 + l.val)) :
    ∃ i, firstAt vx (addi (iota .tc S8x1024 32 [1] iota_S8x1024_d1_w32) (broadcast S8x1024 98304#32)) j = BitVec.ofNat 32 i ∧
      Best (Span 98304 99328) f (shapeCast S8 (top vx) shapeCasts_S8x1_S8 j) i := by
  rw [top_row]
  obtain ⟨i, hi, h⟩ := row_first reduces_S8x1024_S8 (by decide) vx (broadcastTo S8x1024 (top vx) broadcasts_S8x1_S8x1024)
    (addi (iota .tc S8x1024 32 [1] iota_S8x1024_d1_w32) (broadcast S8x1024 98304#32)) j (top_lane vx j)
    (fun l n => Span (98304 + l.val) (98304 + l.val + 1) n) f (fun l => 98304 + l.val)
    (by
      intro l
      have e1 : iota .tc S8x1024 32 [1] iota_S8x1024_d1_w32 (lane j l) = BitVec.ofNat 32 l.val := iota_single_apply _ _ _ _ _ _
      show IntOp.addi (iota .tc S8x1024 32 [1] iota_S8x1024_d1_w32 (lane j l)) (BitVec.ofNat 32 98304) = _
      rw [e1, ofNat_add_lit, Nat.add_comm])
    (fun l => by have : l.val < 1024 := l.isLt; show 98304 + l.val < 2147483647; omega)
    (fun l => best_single _ (hx l))
  refine ⟨i, hi, h.congr fun n => ⟨?_, ?_⟩⟩
  · rintro ⟨l, h1, h2⟩
    have : l.val < 1024 := l.isLt
    exact ⟨by omega, by omega⟩
  · rintro ⟨h1, h2⟩
    exact ⟨⟨n - 98304, by show n - 98304 < 1024; omega⟩, by show 98304 + (n - 98304) ≤ n; omega, by show n < 98304 + (n - 98304) + 1; omega⟩

/-- The tail. -/
theorem first_tail (vt : FVec Ideal S8x672 .f32) (ht : ∀ l : Fin 672, vt (laneT j l) = f (99328 + l.val)) :
    ∃ i, firstAtT vt (addi (iota .tc S8x672 32 [1] iota_S8x672_d1_w32) (broadcast S8x672 99328#32)) j = BitVec.ofNat 32 i ∧
      Best (Span 99328 100000) f (shapeCast S8 (topT vt) shapeCasts_S8x1_S8 j) i := by
  rw [top_rowT]
  obtain ⟨i, hi, h⟩ := row_first reduces_S8x672_S8 (by decide) vt (broadcastTo S8x672 (topT vt) broadcasts_S8x1_S8x672)
    (addi (iota .tc S8x672 32 [1] iota_S8x672_d1_w32) (broadcast S8x672 99328#32)) j (top_laneT vt j)
    (fun l n => Span (99328 + l.val) (99328 + l.val + 1) n) f (fun l => 99328 + l.val)
    (by
      intro l
      have e1 : iota .tc S8x672 32 [1] iota_S8x672_d1_w32 (laneT j l) = BitVec.ofNat 32 l.val := iota_single_apply _ _ _ _ _ _
      show IntOp.addi (iota .tc S8x672 32 [1] iota_S8x672_d1_w32 (laneT j l)) (BitVec.ofNat 32 99328) = _
      rw [e1, ofNat_add_lit, Nat.add_comm])
    (fun l => by have : l.val < 672 := l.isLt; show 99328 + l.val < 2147483647; omega)
    (fun l => best_single _ (ht l))
  refine ⟨i, hi, h.congr fun n => ⟨?_, ?_⟩⟩
  · rintro ⟨l, h1, h2⟩
    have : l.val < 672 := l.isLt
    exact ⟨by omega, by omega⟩
  · rintro ⟨h1, h2⟩
    exact ⟨⟨n - 99328, by show n - 99328 < 672; omega⟩, by show 99328 + (n - 99328) ≤ n; omega, by show n < 99328 + (n - 99328) + 1; omega⟩

/-- A column of samples. -/
theorem column_first (vm : FVec Ideal S8x1024 .f32) (jm : IVec S8x1024 32) (vx : FVec Ideal S8x1024 .f32) (vt : FVec Ideal S8x672 .f32)
    (hl : ∀ l : Fin 1024, Holds 0 96 (fun b => f (b * 1024 + l.val)) (vm, jm) (lane j l))
    (hx : ∀ l : Fin 1024, vx (lane j l) = f (98304 + l.val)) (ht : ∀ l : Fin 672, vt (laneT j l) = f (99328 + l.val)) :
    ∃ n v, column vm jm vx vt j = BitVec.ofNat 32 n ∧ Best (Span 0 100000) f v n := by
  obtain ⟨a, ha, h1⟩ := first_loop vm jm hl
  obtain ⟨b, hb, h2⟩ := first_block vx hx
  obtain ⟨c, hc, h3⟩ := first_tail vt ht
  have hj := h1.join (h2.join h3)
  refine ⟨_, _, ?_, hj⟩
  unfold column pick
  simp only [select_gt, ha, hb, hc]
  split <;> split <;> rfl

end Cert.KernelIdeal.Value

end
-- ==== Proof.Loop.lean ====
/-
  The kernel's loop over the extended reals: after its twelve trips each lane carries the first largest of its 96 columns,
  and the stored block of samples holds in each row the first column of the largest perturbed logit.
-/
module

public import proofs.«01_k».proof.Proof.Column
public import proofs.«01_k».proof.Proof.Trip

@[expose] public section

set_option maxRecDepth 16384

noncomputable section

namespace Cert.KernelIdeal.Value

open Cert.KernelIdeal.Gen Cert.Proof
open Idealize.ShloMosaic

theorem trips_eq : k0_t1_loop.trips = 12 := by decide +kernel

theorem rowBase_apply (i : grid0.Coords) (k1 : BitVec 32) (q : S8x1.Idx) :
    rowBase i k1 q = IntOp.addi (BitVec.ofNat 32 (100000 * (8 * (i 0).val + (q 0).val))) k1 := by
  have e : rowBase i k1 q = (iota .tc S8x1 32 [0] iota_S8x1_d0_w32 q + BitVec.ofNat 32 (i 0).val * 8#32) * 100000#32 + k1 := rfl
  have e0 : iota .tc S8x1 32 [0] iota_S8x1_d0_w32 q = BitVec.ofNat 32 (q 0).val := iota_single_apply _ _ _ _ _ _
  rw [e, e0, show 100000 * (8 * (i 0).val + (q 0).val) = ((q 0).val + (i 0).val * 8) * 100000 by ring, BitVec.ofNat_mul, BitVec.ofNat_add, BitVec.ofNat_mul]
  rfl

/-- The counters at a lane. -/
theorem counters_apply (i : grid0.Coords) (k1 : BitVec 32) (q : S8x1024.Idx) :
    counters i k1 q = IntOp.addi (BitVec.ofNat 32 (100000 * (8 * (i 0).val + (q 0).val) + (q 1).val)) k1 := by
  have e0 : iota .tc S8x1024 32 [1] iota_S8x1024_d1_w32 q = BitVec.ofNat 32 (q 1).val := iota_single_apply _ _ _ _ _ _
  have e1 : broadcastTo S8x1024 (rowBase i k1) broadcasts_S8x1_S8x1024 q = _ :=
    broadcastTo_apply (rowBase i k1) _ q (show S8x1.Idx from fun a => match a with | ⟨0, _⟩ => q 0 | ⟨1, _⟩ => ⟨0, Nat.one_pos⟩)
      (fun a => match a with | ⟨0, _⟩ => rfl | ⟨1, _⟩ => rfl)
  show IntOp.addi (broadcastTo S8x1024 (rowBase i k1) broadcasts_S8x1_S8x1024 q) (iota .tc S8x1024 32 [1] iota_S8x1024_d1_w32 q) = _
  rw [e0, e1, rowBase_apply, counter_add]

theorem countersT_apply (i : grid0.Coords) (k1 : BitVec 32) (q : S8x672.Idx) :
    countersT i k1 q = IntOp.addi (BitVec.ofNat 32 (100000 * (8 * (i 0).val + (q 0).val) + (q 1).val)) k1 := by
  have e0 : iota .tc S8x672 32 [1] iota_S8x672_d1_w32 q = BitVec.ofNat 32 (q 1).val := iota_single_apply _ _ _ _ _ _
  have e1 : broadcastTo S8x672 (rowBase i k1) broadcasts_S8x1_S8x672 q = _ :=
    broadcastTo_apply (rowBase i k1) _ q (show S8x1.Idx from fun a => match a with | ⟨0, _⟩ => q 0 | ⟨1, _⟩ => ⟨0, Nat.one_pos⟩)
      (fun a => match a with | ⟨0, _⟩ => rfl | ⟨1, _⟩ => rfl)
  show IntOp.addi (broadcastTo S8x672 (rowBase i k1) broadcasts_S8x1_S8x672 q) (iota .tc S8x672 32 [1] iota_S8x672_d1_w32 q) = _
  rw [e0, e1, rowBase_apply, counter_add]

/-- What the loop starts from holds for no block. -/
theorem carry0_carried (i : grid0.Coords) (k0 k1 : BitVec 32) (t : EReal) (x : ℕ → EReal) (q : S8x1024.Idx) :
    Carried k0 k1 t x (8 * (i 0).val + (q 0).val) (q 1).val 0 (carry0 i k1) q := by
  refine ⟨?_, ⟨0, rfl, .inl ⟨rfl, ofBits_ninf, rfl⟩⟩, ⟨0, rfl, .inl ⟨rfl, ofBits_ninf, rfl⟩⟩⟩
  show counters i k1 q = _
  rw [counters_apply, Nat.zero_mul, Nat.zero_add]

theorem block_number (k : ℕ) : Scalar.muli (Scf.iv 0#32 1#32 k) 8#32 = BitVec.ofNat 32 (k * 8) := by
  show (0#32 + BitVec.ofNat 32 k * 1#32) * 8#32 = _
  rw [BitVec.zero_add, BitVec.mul_one, BitVec.ofNat_mul]

/-- The loop, trip by trip. -/
theorem loop_carried (c : Dev nD) (i : grid0.Coords) (arg1 : Memref sig .tc .smem S4 .i32) (harg1 : arg1.IsWhole) (arg2 : Memref sig .tc .smem S2 .f32) (harg2 : arg2.IsWhole) (arg3 : Memref sig .tc .vmem S8x100000 .f32) (harg3 : arg3.IsWhole) (arg4 : Memref sig .tc .vmem S8x128 .f32) (harg4 : arg4.IsWhole) (arg5 : Memref sig .tc .vmem S8x2 .i32) (harg5 : arg5.IsWhole) (arg6 : Memref sig .tc .vmem S8x128 .f32) (harg6 : arg6.IsWhole)
    (t : EReal) (k0 k1 : BitVec 32) (X : BufTy.Contents (Elt Ideal) arg3.view.ty) (x : ℕ → EReal) (q : S8x1024.Idx)
    (hX : ∀ (k : Fin k0_t1_loop.trips) (u : Fin 8), blockAt (F := Ideal) arg3 X k u q = x ((k.val * 8 + u.val) * 1024 + (q 1).val)) :
    ∀ n, n ≤ k0_t1_loop.trips → Carried k0 k1 t x (8 * (i 0).val + (q 0).val) (q 1).val (n * 8)
      (st_k0_t1 (F := Ideal) Variants.none c none i arg1 harg1 arg2 harg2 arg3 harg3 arg4 harg4 arg5 harg5 arg6 harg6 t k0 k1 (key2 k0 k1) X (carry0 i k1) n) q
  | 0, _ => by
    rw [st_k0_t1_zero, Nat.zero_mul]
    exact carry0_carried i k0 k1 t x q
  | n + 1, hn => by
    have ih := loop_carried c i arg1 harg1 arg2 harg2 arg3 harg3 arg4 harg4 arg5 harg5 arg6 harg6 t k0 k1 X x q hX n (Nat.le_of_succ_le hn)
    rw [st_k0_t1_succ Variants.none c none i arg1 harg1 arg2 harg2 arg3 harg3 arg4 harg4 arg5 harg5 arg6 harg6 t k0 k1 (key2 k0 k1) X (carry0 i k1) ⟨n, hn⟩,
      trip_eq, show (n + 1) * 8 = n * 8 + 8 from Nat.succ_mul n 8]
    exact ih.trip (block_number n) (L := fun u => blockAt (F := Ideal) arg3 X ⟨n, hn⟩ u) (fun u => hX ⟨n, hn⟩ u)

theorem holds_of_acc {s : Shape} {n : ℕ} (hn : n ≠ 0) {g : ℕ → EReal} {p : FVec Ideal s .f32 × IVec s 32} {i : s.Idx} (h : HoldsAcc n g p i) :
    Holds 0 n g p i := by
  obtain ⟨j, hj, h⟩ := h
  exact ⟨j, hj, h.resolve_left fun h => hn h.1⟩

/-- A stored block of samples. -/
theorem samplesVal_first (i : grid0.Coords) (t : EReal) (k0 k1 : BitVec 32) (a : Carry Ideal) (lx : FVec Ideal S8x1024 .f32) (lt : FVec Ideal S8x672 .f32)
    (x : ℕ → EReal) (q : S8x2.Idx) (j : S8.Idx) (hj : (j 0).val = (q 0).val)
    (hc : ∀ l : Fin 1024, Carried k0 k1 t x (8 * (i 0).val + (q 0).val) l.val 96 a (lane j l))
    (hx : ∀ l : Fin 1024, lx (lane j l) = x (98304 + l.val)) (ht : ∀ l : Fin 672, lt (laneT j l) = x (99328 + l.val)) :
    ∃ n v, samplesVal (F := Ideal) i t k0 k1 (key2 k0 k1) a lx lt q = BitVec.ofNat 32 n ∧
      Best (Span 0 100000) (rowScore k0 k1 t x (q 1).val (8 * (i 0).val + (q 0).val)) v n := by
  have cx : ∀ l : Fin 1024, counters i k1 (lane j l) = IntOp.addi (BitVec.ofNat 32 (100000 * (8 * (i 0).val + (q 0).val) + l.val)) k1 := by
    intro l
    rw [← hj]
    exact counters_apply i k1 (lane j l)
  have ct : ∀ l : Fin 672, countersT i k1 (laneT j l) = IntOp.addi (BitVec.ofNat 32 (100000 * (8 * (i 0).val + (q 0).val) + l.val)) k1 := by
    intro l
    rw [← hj]
    exact countersT_apply i k1 (laneT j l)
  have h2 : (q 1).val < 2 := (q 1).isLt
  unfold samplesVal
  rcases (by omega : (q 1).val = 0 ∨ (q 1).val = 1) with h | h
  · rw [concatenate_pair_apply_left (t := S8x2) (s₁ := S8x1) (s₂ := S8x1) 1 _ _ concatenates_S8x1_S8x1_S8x2_d1 q rfl
      (show S8x1.Idx from fun a => match a with | ⟨0, _⟩ => q 0 | ⟨1, _⟩ => ⟨0, Nat.one_pos⟩)
      (fun a => match a with | ⟨0, _⟩ => rfl | ⟨1, _⟩ => h.symm), cast_column _ _ j hj.symm, h]
    refine column_first _ _ _ _ (fun l => holds_of_acc (by decide) (hc l).2.1) ?_ ?_
    · intro l
      rw [perturbed_apply]
      show score (lx (lane j l) * t) (word k0 k1 (third k0 k1) (IntOp.addi (counters i k1 (lane j l)) (BitVec.ofNat 32 98304))) = _
      rw [cx, hx, counter_add]
      unfold rowScore
      rw [show 100000 * (8 * (i 0).val + (q 0).val) + l.val + 98304 = 102400000 * 0 + 100000 * (8 * (i 0).val + (q 0).val) + (98304 + l.val) by ring]
    · intro l
      rw [perturbed_apply]
      show score (lt (laneT j l) * t) (word k0 k1 (third k0 k1) (IntOp.addi (countersT i k1 (laneT j l)) (BitVec.ofNat 32 99328))) = _
      rw [ct, ht, counter_add]
      unfold rowScore
      rw [show 100000 * (8 * (i 0).val + (q 0).val) + l.val + 99328 = 102400000 * 0 + 100000 * (8 * (i 0).val + (q 0).val) + (99328 + l.val) by ring]
  · rw [concatenate_pair_apply_right (t := S8x2) (s₁ := S8x1) (s₂ := S8x1) 1 _ _ concatenates_S8x1_S8x1_S8x2_d1 q rfl rfl
      (show S8x1.Idx from fun a => match a with | ⟨0, _⟩ => q 0 | ⟨1, _⟩ => ⟨0, Nat.one_pos⟩)
      (fun a ha => match a with | ⟨0, _⟩ => rfl | ⟨1, _⟩ => absurd rfl ha) (by show 0 + 1 = (q 1).val; omega), cast_column _ _ j hj.symm, h]
    refine column_first _ _ _ _ (fun l => holds_of_acc (by decide) (hc l).2.2) ?_ ?_
    · intro l
      rw [perturbed_apply]
      show score (lx (lane j l) * t) (word k0 k1 (third k0 k1) (IntOp.addi (IntOp.addi (counters i k1 (lane j l)) (BitVec.ofNat 32 98304)) (BitVec.ofNat 32 102400000))) = _
      rw [cx, hx, counter_add, counter_add]
      unfold rowScore
      rw [show 100000 * (8 * (i 0).val + (q 0).val) + l.val + 98304 + 102400000 = 102400000 * 1 + 100000 * (8 * (i 0).val + (q 0).val) + (98304 + l.val) by ring]
    · intro l
      rw [perturbed_apply]
      show score (lt (laneT j l) * t) (word k0 k1 (third k0 k1) (IntOp.addi (IntOp.addi (countersT i k1 (laneT j l)) (BitVec.ofNat 32 99328)) (BitVec.ofNat 32 102400000))) = _
      rw [ct, ht, counter_add, counter_add]
      unfold rowScore
      rw [show 100000 * (8 * (i 0).val + (q 0).val) + l.val + 99328 + 102400000 = 102400000 * 1 + 100000 * (8 * (i 0).val + (q 0).val) + (99328 + l.val) by ring]

end Cert.KernelIdeal.Value

end
-- ==== Proof.Blocks.lean ====
/-
  What the kernel reads at a grid point: the two keys, the two temperatures, eight rows of the logits and the
  Bernoulli logits as eight rows of 128.
-/
module

public import proofs.«01_k».proof.Proof.KRun
public import proofs.«01_k».proof.Proof.HostRead
public import proofs.«01_k».proof.Proof.Loop

@[expose] public section

set_option maxRecDepth 16384

noncomputable section

namespace Cert.KernelIdeal.Value

open Cert.KernelIdeal.Gen Cert.Proof
open Idealize.ShloMosaic

variable {F : FTy → Type} [FloatOps F]
variable (m : (ℓ : Loc nD τ sig) → Buf (Elt F) ℓ) (c : Dev nD)

/-- A load of a rectangle of unit stride from a whole buffer, entry by entry. -/
theorem read_unit {sp : Space} {s : Shape} {e : EltTy} (a : Memref sig .tc sp s e) (h : a.IsWhole) (off size : Fin s.rank → ℕ)
    (inb : ∀ b, off b + size b ≤ s.size b) (x : s.Idx → Elt F e) (q : (Rect.unit (s := s) off size inb).shape.Idx) (p : s.Idx)
    (hp : ∀ b, (p b).val = off b + (q b).val) :
    View.readAt (Elt F) a.view (Rect.unit (s := s) off size inb).toLoadRect (h.unread x) q = x p := by
  rw [View.readAt_eq_ld, h.read_unread]
  show x _ = x p
  congr 1
  funext b
  apply Fin.ext
  rw [hp b]
  show off b + 1 * (q b).val = off b + (q b).val
  omega

theorem point_val (t : Fin cfg0.N) : (grid0.coords t 0).val = t.val := by
  have ht : t.val < 128 := Nat.lt_of_lt_of_eq t.isLt N_0
  have e0 : (grid0.coords t 0).val = t.val / 1 % 128 := Pipeline.Grid.coords_val t 0 (by decide) rfl
  omega

theorem point_word (t : Fin cfg0.N) : (BitVec.ofNat 32 (grid0.coords t 0).val).toNat = t.val := by
  have ht : t.val < 128 := Nat.lt_of_lt_of_eq t.isLt N_0
  rw [point_val, BitVec.toNat_ofNat]
  omega

/-- The blocks, entry by entry. -/
theorem iblk_keys (t : Fin cfg0.N) (p : S4.Idx) : (iblk m c 0 t : Vec F S4 .i32) p = (V m c main_v12 : Vec F S4 .i32) p := by
  unfold iblk
  rw [View.read_apply]
  show (V m c main_v12 : Vec F S4 .i32) _ = _
  congr 1
  funext a
  apply Fin.ext
  match a with
  | ⟨0, _⟩ => show 0 * 4 + 1 * (p 0).val = (p 0).val; omega

theorem iblk_temps (t : Fin cfg0.N) (p : S2.Idx) : (iblk m c 1 t : Vec F S2 .f32) p = (V m c main_v15 : Vec F S2 .f32) p := by
  unfold iblk
  rw [View.read_apply]
  show (V m c main_v15 : Vec F S2 .f32) _ = _
  congr 1
  funext a
  apply Fin.ext
  match a with
  | ⟨0, _⟩ => show 0 * 2 + 1 * (p 0).val = (p 0).val; omega

theorem iblk_rows (t : Fin cfg0.N) (q : S8x100000.Idx) (p : S1024x100000.Idx) (h0 : (p 0).val = 8 * t.val + (q 0).val) (h1 : (p 1).val = (q 1).val) :
    (iblk m c 2 t : Vec F S8x100000 .f32) q = (V m c main_arg0 : Vec F S1024x100000 .f32) p := by
  unfold iblk
  rw [View.read_apply]
  show (V m c main_arg0 : Vec F S1024x100000 .f32) _ = _
  congr 1
  funext a
  apply Fin.ext
  match a with
  | ⟨0, _⟩ =>
    show (BitVec.ofNat 32 (grid0.coords t 0).val).toNat * 8 + 1 * (q 0).val = (p 0).val
    rw [point_word, h0]; omega
  | ⟨1, _⟩ => show 0 * 100000 + 1 * (q 1).val = (p 1).val; rw [h1]; omega

theorem iblk_bern (t : Fin cfg0.N) (p : S8x128.Idx) : (iblk m c 3 t : Vec F S8x128 .f32) p = (V m c main_v16 : Vec F S8x128 .f32) p := by
  unfold iblk
  rw [View.read_apply]
  show (V m c main_v16 : Vec F S8x128 .f32) _ = _
  congr 1
  funext a
  apply Fin.ext
  match a with
  | ⟨0, _⟩ => show 0 * 8 + 1 * (p 0).val = (p 0).val; omega
  | ⟨1, _⟩ => show 0 * 128 + 1 * (p 1).val = (p 1).val; omega

/-- A key's words are its two entries. -/
theorem keyWord0_eq (k : IVec T2 32) (p : T2.Idx) (hp : (p 0).val = 0) : keyWord0 k = k p := by
  unfold keyWord0 scal
  refine (shapeCast_apply (extractStridedSlice T1 ![0] k (by decide)) _ _ (show T1.Idx from fun a => match a with | ⟨0, _⟩ => ⟨0, Nat.one_pos⟩) ?_).trans ?_
  · rfl
  · refine extractStridedSlice_apply ![0] k _ _ p fun a => ?_
    match a with
    | ⟨0, _⟩ => exact hp
theorem keyWord1_eq (k : IVec T2 32) (p : T2.Idx) (hp : (p 0).val = 1) : keyWord1 k = k p := by
  unfold keyWord1 scal
  refine (shapeCast_apply (extractStridedSlice T1 ![1] k (by decide)) _ _ (show T1.Idx from fun a => match a with | ⟨0, _⟩ => ⟨0, Nat.one_pos⟩) ?_).trans ?_
  · rfl
  · refine extractStridedSlice_apply ![1] k _ _ p fun a => ?_
    match a with
    | ⟨0, _⟩ => exact hp

/-- The keys as the kernel's first operand holds them. -/
theorem keys_left (p : S4.Idx) (q : T2.Idx) (h : (q 0).val = (p 0).val) : (V m c main_v12 : Vec F S4 .i32) p = keyA q := by
  rw [(V_operands m c).1]
  exact concatenate_pair_apply_left (t := S4) (s₁ := S2) (s₂ := S2) 0 keyA keyB concatenates_S2_S2_S4_d0 p rfl q (fun a => match a with | ⟨0, _⟩ => h)
theorem keys_right (p : S4.Idx) (q : T2.Idx) (h : (q 0).val + 2 = (p 0).val) : (V m c main_v12 : Vec F S4 .i32) p = keyB q := by
  rw [(V_operands m c).1]
  exact concatenate_pair_apply_right (t := S4) (s₁ := S2) (s₂ := S2) 0 keyA keyB concatenates_S2_S2_S4_d0 p rfl rfl q
    (fun a ha => match a with | ⟨0, _⟩ => absurd rfl ha) h

/-- The temperatures as its second holds them. -/
theorem temps_left (p : S2.Idx) (h : (p 0).val = 0) : (V m c main_v15 : Vec F S2 .f32) p = scal (m ((c.tc : Thread nD τ).loc main_arg1)) := by
  rw [(V_operands m c).2.1]
  exact concatenate_pair_apply_left (t := S2) (s₁ := S1) (s₂ := S1) 0 _ _ concatenates_S1_S1_S2_d0 p rfl (fun a => match a with | ⟨0, _⟩ => ⟨0, Nat.one_pos⟩)
    (fun a => match a with | ⟨0, _⟩ => h.symm)
theorem temps_right (p : S2.Idx) (h : (p 0).val = 1) : (V m c main_v15 : Vec F S2 .f32) p = scal (m ((c.tc : Thread nD τ).loc main_arg3)) := by
  rw [(V_operands m c).2.1]
  exact concatenate_pair_apply_right (t := S2) (s₁ := S1) (s₂ := S1) 0 _ _ concatenates_S1_S1_S2_d0 p rfl rfl (fun a => match a with | ⟨0, _⟩ => ⟨0, Nat.one_pos⟩)
    (fun a ha => match a with | ⟨0, _⟩ => absurd rfl ha) (by show 0 + 1 = (p 0).val; omega)

end Cert.KernelIdeal.Value

end
-- ==== Proof.Samples.lean ====
/-
  The kernel's samples over the extended reals: each grid point stores, for its eight rows and both draws, the first
  column of the largest perturbed logit, and the points' blocks make up the whole array.
-/
module

public import proofs.«01_k».proof.Proof.Blocks

@[expose] public section

set_option maxRecDepth 16384

noncomputable section

namespace Cert.KernelIdeal.Value

open Cert.KernelIdeal.Gen Cert.Proof
open Idealize.ShloMosaic

section Reads

variable {F : FTy → Type} [FloatOps F]
variable (m : (ℓ : Loc nD τ sig) → Buf (Elt F) ℓ) (c : Dev nD) (t : Fin cfg0.N)

/-- What the scalar loads read. -/
theorem read_key0 : View.readAt (Elt F) (ms0_0 t).view (Rect.unit (s := S4) ![0] S1.size inb_S4_S1_0).toLoadRect ((hs0_0 t).unread (iblk m c 0 t)) (Shape.Idx.first (s := (Rect.unit (s := S4) ![0] S1.size inb_S4_S1_0).shape) (numel1_S1.symm ▸ Nat.one_pos)) = keyWord0 keyA := by
  refine (read_unit (ms0_0 t) (hs0_0 t) _ _ _ _ _ (show S4.Idx from fun a => match a with | ⟨0, _⟩ => ⟨0, (by decide : 0 < 4)⟩) fun a => by match a with | ⟨0, _⟩ => rfl).trans ?_
  refine (iblk_keys m c t _).trans ?_
  rw [keyWord0_eq keyA (fun a => match a with | ⟨0, _⟩ => ⟨0, Nat.two_pos⟩) rfl]
  exact keys_left m c _ _ rfl
theorem read_key1 : View.readAt (Elt F) (ms0_0 t).view (Rect.unit (s := S4) ![1] S1.size inb_S4_S1_1).toLoadRect ((hs0_0 t).unread (iblk m c 0 t)) (Shape.Idx.first (s := (Rect.unit (s := S4) ![1] S1.size inb_S4_S1_1).shape) (numel1_S1.symm ▸ Nat.one_pos)) = keyWord1 keyA := by
  refine (read_unit (ms0_0 t) (hs0_0 t) _ _ _ _ _ (show S4.Idx from fun a => match a with | ⟨0, _⟩ => ⟨1, (by decide : 1 < 4)⟩) fun a => by match a with | ⟨0, _⟩ => rfl).trans ?_
  refine (iblk_keys m c t _).trans ?_
  rw [keyWord1_eq keyA (fun a => match a with | ⟨0, _⟩ => ⟨1, Nat.one_lt_two⟩) rfl]
  exact keys_left m c _ _ rfl
theorem read_key2 : View.readAt (Elt F) (ms0_0 t).view (Rect.unit (s := S4) ![2] S1.size inb_S4_S1_2).toLoadRect ((hs0_0 t).unread (iblk m c 0 t)) (Shape.Idx.first (s := (Rect.unit (s := S4) ![2] S1.size inb_S4_S1_2).shape) (numel1_S1.symm ▸ Nat.one_pos)) = keyWord0 keyB := by
  refine (read_unit (ms0_0 t) (hs0_0 t) _ _ _ _ _ (show S4.Idx from fun a => match a with | ⟨0, _⟩ => ⟨2, (by decide : 2 < 4)⟩) fun a => by match a with | ⟨0, _⟩ => rfl).trans ?_
  refine (iblk_keys m c t _).trans ?_
  rw [keyWord0_eq keyB (fun a => match a with | ⟨0, _⟩ => ⟨0, Nat.two_pos⟩) rfl]
  exact keys_right m c _ _ rfl
theorem read_key3 : View.readAt (Elt F) (ms0_0 t).view (Rect.unit (s := S4) ![3] S1.size inb_S4_S1_3).toLoadRect ((hs0_0 t).unread (iblk m c 0 t)) (Shape.Idx.first (s := (Rect.unit (s := S4) ![3] S1.size inb_S4_S1_3).shape) (numel1_S1.symm ▸ Nat.one_pos)) = keyWord1 keyB := by
  refine (read_unit (ms0_0 t) (hs0_0 t) _ _ _ _ _ (show S4.Idx from fun a => match a with | ⟨0, _⟩ => ⟨3, (by decide : 3 < 4)⟩) fun a => by match a with | ⟨0, _⟩ => rfl).trans ?_
  refine (iblk_keys m c t _).trans ?_
  rw [keyWord1_eq keyB (fun a => match a with | ⟨0, _⟩ => ⟨1, Nat.one_lt_two⟩) rfl]
  exact keys_right m c _ _ rfl
theorem read_temp0 : View.readAt (Elt F) (ms0_1 t).view (Rect.unit (s := S2) ![0] S1.size inb_S2_S1_0).toLoadRect ((hs0_1 t).unread (iblk m c 1 t)) (Shape.Idx.first (s := (Rect.unit (s := S2) ![0] S1.size inb_S2_S1_0).shape) (numel1_S1.symm ▸ Nat.one_pos)) = scal (m ((c.tc : Thread nD τ).loc main_arg1)) := by
  refine (read_unit (ms0_1 t) (hs0_1 t) _ _ _ _ _ (show S2.Idx from fun a => match a with | ⟨0, _⟩ => ⟨0, (by decide : 0 < 2)⟩) fun a => by match a with | ⟨0, _⟩ => rfl).trans ?_
  exact (iblk_temps m c t _).trans (temps_left m c _ rfl)
theorem read_temp1 : View.readAt (Elt F) (ms0_1 t).view (Rect.unit (s := S2) ![1] S1.size inb_S2_S1_1).toLoadRect ((hs0_1 t).unread (iblk m c 1 t)) (Shape.Idx.first (s := (Rect.unit (s := S2) ![1] S1.size inb_S2_S1_1).shape) (numel1_S1.symm ▸ Nat.one_pos)) = scal (m ((c.tc : Thread nD τ).loc main_arg3)) := by
  refine (read_unit (ms0_1 t) (hs0_1 t) _ _ _ _ _ (show S2.Idx from fun a => match a with | ⟨0, _⟩ => ⟨1, (by decide : 1 < 2)⟩) fun a => by match a with | ⟨0, _⟩ => rfl).trans ?_
  exact (iblk_temps m c t _).trans (temps_right m c _ rfl)

/-- The loads of the loop, of the block after it and of the tail. -/
abbrev loopRead (k : Fin k0_t1_loop.trips) (u : Fin 8) : FVec F S8x1024 .f32 := blockAt (ms0_2 t) ((hs0_2 t).unread (iblk m c 2 t)) k u
abbrev nextRead : FVec F S8x1024 .f32 :=
  View.readAt (Elt F) (ms0_2 t).view (Rect.unit (s := S8x100000) ![0, 98304] S8x1024.size inb_S8x100000_S8x1024_0_98304).toLoadRect ((hs0_2 t).unread (iblk m c 2 t))
abbrev tailRead : FVec F S8x672 .f32 :=
  View.readAt (Elt F) (ms0_2 t).view (Rect.unit (s := S8x100000) ![0, 99328] S8x672.size inb_S8x100000_S8x672_0_99328).toLoadRect ((hs0_2 t).unread (iblk m c 2 t))

/-- The stored block of samples, whichever way the branch goes. -/
theorem samp_eq : samp m c t = samplesVal (grid0.coords t) (scal (m ((c.tc : Thread nD τ).loc main_arg1))) (keyWord0 keyA) (keyWord1 keyA)
      (key2 (keyWord0 keyA) (keyWord1 keyA))
      (st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t)
        (scal (m ((c.tc : Thread nD τ).loc main_arg1))) (keyWord0 keyA) (keyWord1 keyA) (key2 (keyWord0 keyA) (keyWord1 keyA))
        ((hs0_2 t).unread (iblk m c 2 t)) (carry0 (grid0.coords t) (keyWord1 keyA)) k0_t1_loop.trips)
      (nextRead m c t) (tailRead m c t) := by
  unfold samp
  split
  · exact runFirst_samples c (grid0.coords t) _ _ _ _ _ _ _ _ _ _ _ _ _ _ _ _ _ _ _ _ _ _ (read_key0 m c t) (read_key1 m c t) (read_temp0 m c t) rfl rfl
  · exact runRest_samples c (grid0.coords t) _ _ _ _ _ _ _ _ _ _ _ _ _ _ _ _ _ _ _ _ _ _ (read_key0 m c t) (read_key1 m c t) (read_temp0 m c t) rfl rfl

end Reads

variable (m : (ℓ : Loc nD τ sig) → Buf (Elt Ideal) ℓ) (c : Dev nD) (t : Fin cfg0.N)

/-- The logits of the launch. -/
abbrev logits : FVec Ideal S1024x100000 .f32 := m ((c.tc : Thread nD τ).loc main_arg0)

theorem iblk_row (p : S8x100000.Idx) {R n : ℕ} (hR : R = 8 * t.val + (p 0).val) (hn : (p 1).val = n) :
    (iblk m c 2 t : Vec Ideal S8x100000 .f32) p = rowOf (logits m c) R n := by
  have ht : t.val < 128 := Nat.lt_of_lt_of_eq t.isLt N_0
  have h0 : (p 0).val < 8 := (p 0).isLt
  subst hn hR
  refine (iblk_rows m c t p (fun a => match a with | ⟨0, _⟩ => ⟨8 * t.val + (p 0).val, by show _ < 1024; omega⟩ | ⟨1, _⟩ => p 1) rfl rfl).trans ?_
  rw [V_main_arg0]
  exact rowOf_eq _ _ rfl rfl

theorem loopRead_apply (k : Fin k0_t1_loop.trips) (u : Fin 8) (q : S8x1024.Idx) :
    loopRead m c t k u q = rowOf (logits m c) (8 * t.val + (q 0).val) ((k.val * 8 + u.val) * 1024 + (q 1).val) := by
  have hk : k.val < 12 := trips_eq ▸ k.isLt
  have h1 : (q 1).val < 1024 := (q 1).isLt
  have e := k0_off1_eq k u
  unfold loopRead blockAt
  refine (read_unit (ms0_2 t) (hs0_2 t) _ _ _ _ _ (show S8x100000.Idx from fun a => match a with
      | ⟨0, _⟩ => q 0 | ⟨1, _⟩ => ⟨8192 * k.val + 1024 * u.val + (q 1).val, by show _ < 100000; omega⟩) ?_).trans ?_
  rotate_left
  · exact iblk_row m c t _ rfl (by show 8192 * k.val + 1024 * u.val + (q 1).val = _; ring)
  · intro b
    refine Eq.trans ?_ (congrArg (· + (q b).val) (congrFun e b).symm)
    match b with
    | ⟨0, _⟩ => exact (Nat.zero_add _).symm
    | ⟨1, _⟩ => rfl

theorem nextRead_apply (q : S8x1024.Idx) : nextRead m c t q = rowOf (logits m c) (8 * t.val + (q 0).val) (98304 + (q 1).val) := by
  have h1 : (q 1).val < 1024 := (q 1).isLt
  refine (read_unit (ms0_2 t) (hs0_2 t) _ _ _ _ _ (show S8x100000.Idx from fun a => match a with
      | ⟨0, _⟩ => q 0 | ⟨1, _⟩ => ⟨98304 + (q 1).val, by show _ < 100000; omega⟩) ?_).trans ?_
  rotate_left
  · exact iblk_row m c t _ rfl rfl
  · intro b
    match b with
    | ⟨0, _⟩ => exact (Nat.zero_add _).symm
    | ⟨1, _⟩ => rfl

theorem tailRead_apply (q : S8x672.Idx) : tailRead m c t q = rowOf (logits m c) (8 * t.val + (q 0).val) (99328 + (q 1).val) := by
  have h1 : (q 1).val < 672 := (q 1).isLt
  refine (read_unit (ms0_2 t) (hs0_2 t) _ _ _ _ _ (show S8x100000.Idx from fun a => match a with
      | ⟨0, _⟩ => q 0 | ⟨1, _⟩ => ⟨99328 + (q 1).val, by show _ < 100000; omega⟩) ?_).trans ?_
  rotate_left
  · exact iblk_row m c t _ rfl rfl
  · intro b
    match b with
    | ⟨0, _⟩ => exact (Nat.zero_add _).symm
    | ⟨1, _⟩ => rfl

/-- A point's block. -/
theorem samp_first (q : S8x2.Idx) : ∃ n v, (samp m c t : IVec S8x2 32) q = BitVec.ofNat 32 n ∧
    Best (Span 0 100000) (rowScore (keyWord0 keyA) (keyWord1 keyA) (scal (m ((c.tc : Thread nD τ).loc main_arg1)))
      (rowOf (logits m c) (8 * t.val + (q 0).val)) (q 1).val (8 * t.val + (q 0).val)) v n := by
  rw [samp_eq]
  have h := samplesVal_first (grid0.coords t) (scal (m ((c.tc : Thread nD τ).loc main_arg1))) (keyWord0 keyA) (keyWord1 keyA)
    (st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t)
        (scal (m ((c.tc : Thread nD τ).loc main_arg1))) (keyWord0 keyA) (keyWord1 keyA) (key2 (keyWord0 keyA) (keyWord1 keyA))
        ((hs0_2 t).unread (iblk m c 2 t)) (carry0 (grid0.coords t) (keyWord1 keyA)) k0_t1_loop.trips)
    (nextRead m c t) (tailRead m c t) (rowOf (logits m c) (8 * t.val + (q 0).val)) q (fun a => match a with | ⟨0, _⟩ => q 0) rfl ?_ ?_ ?_
  · rw [point_val] at h
    exact h
  · intro l
    have hc := loop_carried c (grid0.coords t) (ms0_0 t) (hs0_0 t) (ms0_1 t) (hs0_1 t) (ms0_2 t) (hs0_2 t) (ms0_3 t) (hs0_3 t) (ms0_4 t) (hs0_4 t) (ms0_5 t) (hs0_5 t)
      (scal (m ((c.tc : Thread nD τ).loc main_arg1))) (keyWord0 keyA) (keyWord1 keyA) ((hs0_2 t).unread (iblk m c 2 t))
      (rowOf (logits m c) (8 * t.val + (q 0).val)) (lane (fun a => match a with | ⟨0, _⟩ => q 0) l)
      (fun k u => loopRead_apply m c t k u _) k0_t1_loop.trips le_rfl
    rw [show k0_t1_loop.trips * 8 = 96 by rw [trips_eq]] at hc
    exact hc
  · exact fun l => nextRead_apply m c t _
  · exact fun l => tailRead_apply m c t _

end Cert.KernelIdeal.Value

end
-- ==== Proof.Uniform.lean ====
/-
  A uniform number over the extended reals is not negative, so scaling it to `[0, 1)` and clamping it at zero, as the host
  does, change nothing.
-/
module

public import proofs.«01_k».proof.Proof.Score
public import Idealize.ShloMosaic.Lib.IdealHost

@[expose] public section

noncomputable section

namespace Cert.Proof

open Idealize.ShloMosaic

/-- The word of a float of `[1, 2)`: sign zero, exponent field 127. -/
theorem mantissa_sign (b : BitVec 32) : (b >>> 9 ||| 1065353216#32).extractLsb' 31 1 = 0#1 := by
  apply BitVec.eq_of_getLsbD_eq
  intro i hi
  interval_cases i
  simp
theorem mantissa_exponent (b : BitVec 32) : (b >>> 9 ||| 1065353216#32).extractLsb' 23 8 = 127#8 := by
  apply BitVec.eq_of_getLsbD_eq
  intro i hi
  interval_cases i <;> simp

theorem mantissa_word (b : BitVec 32) : IntOp.ori (IntOp.shrui .vector b 9#32) 1065353216#32 = b >>> 9 ||| 1065353216#32 :=
  congrArg (· ||| 1065353216#32) (if_pos (by decide))

/-- A uniform number is not negative. -/
theorem unif_nonneg (b : BitVec 32) : 0 ≤ unif b := by
  unfold unif
  rw [mantissa_word, Ideal.ofBits_one_f32]
  have hs := mantissa_sign b
  have he := mantissa_exponent b
  generalize b >>> 9 ||| 1065353216#32 = w at hs he ⊢
  have e : Ideal.ofBits .f32 w = (((2 ^ 23 + (w.extractLsb' 0 23).toNat : ℕ) * (2 : ℝ) ^ (-23 : ℤ) : ℝ) : EReal) := by
    unfold Ideal.ofBits Ideal.ieee
    simp only [hs, he]
    norm_num
  rw [e, show (1 : EReal) = ((1 : ℝ) : EReal) from rfl, ← EReal.coe_sub, ← EReal.coe_zero, EReal.coe_le_coe_iff]
  have hn : (0 : ℝ) ≤ ((w.extractLsb' 0 23).toNat : ℝ) := Nat.cast_nonneg _
  push_cast
  norm_num
  linarith

theorem host_shift (b : BitVec 32) : IntOp.shrui .host b 9#32 = IntOp.shrui .vector b 9#32 :=
  (if_pos (by decide)).trans (if_pos (by decide)).symm

/-- The host's uniform number on `[0, 1)`. -/
theorem unif_clamped (b : BitVec 32) :
    max (Ideal.ofBits .f32 0x00000000#32) ((Ideal.ofBits .f32 (IntOp.ori (IntOp.shrui .host b 9#32) 1065353216#32) - Ideal.ofBits .f32 0x3F800000#32)
      * (Ideal.ofBits .f32 0x3F800000#32 - Ideal.ofBits .f32 0x00000000#32) + Ideal.ofBits .f32 0x00000000#32) = unif b := by
  have e : Ideal.ofBits .f32 (IntOp.ori (IntOp.shrui .host b 9#32) 1065353216#32) - Ideal.ofBits .f32 0x3F800000#32 = unif b := by
    rw [host_shift]; rfl
  rw [e, Ideal.ofBits_zero_f32, Ideal.ofBits_one_f32, sub_zero, mul_one, add_zero, max_eq_right (unif_nonneg b)]

end Cert.Proof

end
-- ==== Proof.ArgMax.lean ====
/-
  The host's arg-max: a fold over a row's elements in order, which keeps the greater value and, of equal ones, the lesser
  index; from −∞ and index 0 it ends at the first place of the row's largest element.
-/
module

public import proofs.«01_k».proof.Proof.First
public import proofs.«01_k».proof.Proof.Gen.ReferenceIdeal
public import Idealize.ShloMosaic.PureOps.Ideal.Laws
public import Idealize.ShloMosaic.PureOps.Reduce

@[expose] public section

noncomputable section

namespace Cert.Proof

open Idealize.ShloMosaic Cert.ReferenceIdeal

/-- The fold's step. -/
theorem reducer_eq (a b : EReal × BitVec 32) : reducer_argmax_f32_i32 (F := Ideal) a b
    = if b.1 < a.1 ∨ (a.1 = b.1 ∧ a.2.toInt < b.2.toInt) then a else b := by
  obtain ⟨a1, a2⟩ := a
  obtain ⟨b1, b2⟩ := b
  have e : reducer_argmax_f32_i32 (F := Ideal) (a1, a2) (b1, b2)
      = (Scalar.select (IntOp.ori (BitVec.ofBool (decide (b1 < a1))) (BitVec.ofBool (decide (a1 ≠ a1)))) a1 b1,
        Scalar.select (IntOp.ori (IntOp.ori (BitVec.ofBool (decide (b1 < a1))) (BitVec.ofBool (decide (a1 ≠ a1))))
          (IntOp.andi (BitVec.ofBool (decide (a1 = b1))) (BitVec.ofBool (a2.slt b2)))) a2 b2) := rfl
  rw [e]
  simp only [Scalar.select, IntOp.ori, IntOp.andi, BitVec.slt, ne_eq, not_true_eq_false]
  by_cases h1 : b1 < a1
  · simp only [h1, decide_true, true_or, if_true, decide_not, Bool.not_true]
    generalize (BitVec.ofBool (decide (a1 = b1)) &&& BitVec.ofBool (decide (a2.toInt < b2.toInt))) = z
    have hz : (1#1 ||| z) = 1#1 := by
      revert z
      decide
    simp [hz]
  · by_cases h2 : a1 = b1
    · subst h2
      by_cases h3 : a2.toInt < b2.toInt <;> simp [h3]
    · simp [h1, h2]

theorem foldl_best (l : List (EReal × BitVec 32)) : ∀ init : EReal × BitVec 32,
    (l.foldl (reducer_argmax_f32_i32 (F := Ideal)) init ∈ init :: l) ∧ ∀ q ∈ init :: l,
      q.1 < (l.foldl (reducer_argmax_f32_i32 (F := Ideal)) init).1 ∨ (q.1 = (l.foldl (reducer_argmax_f32_i32 (F := Ideal)) init).1 ∧
        (l.foldl (reducer_argmax_f32_i32 (F := Ideal)) init).2.toInt ≤ q.2.toInt) := by
  induction l with
  | nil =>
    intro init
    refine ⟨List.mem_cons_self, fun q hq => ?_⟩
    rw [List.mem_singleton] at hq
    subst hq
    exact .inr ⟨rfl, le_rfl⟩
  | cons b l ih =>
    intro init
    rw [List.foldl_cons]
    obtain ⟨i1, i2⟩ := ih (reducer_argmax_f32_i32 (F := Ideal) init b)
    generalize l.foldl (reducer_argmax_f32_i32 (F := Ideal)) (reducer_argmax_f32_i32 (F := Ideal) init b) = p at *
    have hr := reducer_eq init b
    generalize reducer_argmax_f32_i32 (F := Ideal) init b = r at *
    have h0 : r = init ∨ r = b := by
      rw [hr]
      split
      · exact .inl rfl
      · exact .inr rfl
    have h1 : ∀ q, q = init ∨ q = b → q.1 < r.1 ∨ (q.1 = r.1 ∧ r.2.toInt ≤ q.2.toInt) := by
      intro q hq
      rw [hr]
      split
      · next h =>
        rcases hq with rfl | rfl
        · exact .inr ⟨rfl, le_rfl⟩
        · rcases h with h | h
          · exact .inl h
          · exact .inr ⟨h.1.symm, h.2.le⟩
      · next h =>
        rw [not_or] at h
        rcases hq with rfl | rfl
        · rcases (not_lt.mp h.1).lt_or_eq with d | d
          · exact .inl d
          · exact .inr ⟨d, not_lt.mp fun e => h.2 ⟨d, e⟩⟩
        · exact .inr ⟨rfl, le_rfl⟩
    refine ⟨?_, ?_⟩
    · rcases List.mem_cons.mp i1 with h | h
      · rcases h0 with h' | h'
        · rw [h, h']; exact List.mem_cons_self
        · rw [h, h']; exact List.mem_cons_of_mem _ List.mem_cons_self
      · exact List.mem_cons_of_mem _ (List.mem_cons_of_mem _ h)
    · intro q hq
      have step : ∀ q, q = init ∨ q = b → q.1 < p.1 ∨ (q.1 = p.1 ∧ p.2.toInt ≤ q.2.toInt) := by
        intro q hq
        have hp := i2 r List.mem_cons_self
        rcases h1 q hq with d | d <;> rcases hp with e | e
        · exact .inl (d.trans e)
        · exact .inl (d.trans_eq e.1)
        · exact .inl (d.1.trans_lt e)
        · exact .inr ⟨d.1.trans e.1, e.2.trans d.2⟩
      rcases List.mem_cons.mp hq with h | h
      · exact step q (.inl h)
      · rcases List.mem_cons.mp h with h | h
        · exact step q (.inr h)
        · exact i2 q (List.mem_cons_of_mem _ h)

theorem toInt_small {c : ℕ} (h : c < 2147483648) : (BitVec.ofNat 32 c).toInt = c := by
  rw [BitVec.toInt_eq_toNat_of_lt] <;> rw [BitVec.toNat_ofNat, Nat.mod_eq_of_lt (by omega)]
  omega

theorem argmax_first {s t u : Shape} {a : Fin s.rank} (h' : s.ReducesTo [a] t) (hs : s.Reduces [a] t) (hu : 0 < u.numel)
    (x : FVec Ideal s .f32) (y : IVec s 32) (ix : FVec Ideal u .f32) (iy : IVec u 32) (j : t.Idx) (hn : 0 < s.size a) (hN : s.size a ≤ 2147483648)
    (hix : ∀ i, ix i = (⊥ : EReal)) (hiy : ∀ i, iy i = 0#32) (f : ℕ → EReal)
    (hx : ∀ k, x (hs.lift j k) = f k.val) (hy : ∀ k, y (hs.lift j k) = BitVec.ofNat 32 k.val) :
    ∃ n v, (Host.argReduce (reducer_argmax_f32_i32 (F := Ideal)) x y ix iy h' hu j).2 = BitVec.ofNat 32 n ∧ Best (Span 0 (s.size a)) f v n := by
  rw [Ideal.argReduce_eq_reduce2, Host.reduce2_eq_foldl_fiber, hix, hiy]
  have hmem : ∀ p, p ∈ Host.argReduceFiber x y h' j ↔ ∃ k : Fin (s.size a), p = (f k.val, BitVec.ofNat 32 k.val) := by
    intro p
    unfold Host.argReduceFiber
    simp only [List.mem_map, List.mem_filter, List.mem_finRange, true_and, decide_eq_true_eq]
    constructor
    · rintro ⟨n, hd, rfl⟩
      rw [Shape.ReducesTo.drop_eq_drop h' hs] at hd
      have e := hs.lift_drop (s.rowMajor.symm n)
      rw [hd] at e
      exact ⟨s.rowMajor.symm n a, by rw [← hx, ← hy, e]⟩
    · rintro ⟨k, rfl⟩
      refine ⟨s.rowMajor (hs.lift j k), ?_, ?_⟩
      · rw [Equiv.symm_apply_apply, Shape.ReducesTo.drop_eq_drop h' hs]
        exact hs.drop_lift j k
      · rw [Equiv.symm_apply_apply, hx, hy]
  obtain ⟨i1, i2⟩ := foldl_best (Host.argReduceFiber x y h' j) (⊥, 0#32)
  generalize List.foldl (reducer_argmax_f32_i32 (F := Ideal)) (⊥, 0#32) (Host.argReduceFiber x y h' j) = p at *
  have key : ∀ n, n < s.size a → f n < p.1 ∨ (f n = p.1 ∧ p.2.toInt ≤ (n : ℤ)) := by
    intro n hn
    have := i2 (f n, BitVec.ofNat 32 n) (List.mem_cons_of_mem _ ((hmem _).mpr ⟨⟨n, hn⟩, rfl⟩))
    rwa [toInt_small (by omega)] at this
  rcases List.mem_cons.mp i1 with h | h
  · refine ⟨0, ⊥, by rw [h], ⟨le_rfl, hn⟩, ?_, ?_⟩
    · rcases key 0 hn with d | d
      · rw [h] at d; exact absurd d not_lt_bot
      · rw [d.1, h]
    · intro i hi
      rcases key i hi.2 with d | d
      · rw [h] at d; exact absurd d not_lt_bot
      · exact .inr ⟨by rw [d.1, h], Nat.zero_le _⟩
  · obtain ⟨k, rfl⟩ := (hmem p).mp h
    refine ⟨k.val, f k.val, rfl, ⟨Nat.zero_le _, k.isLt⟩, rfl, ?_⟩
    intro i hi
    rcases key i hi.2 with d | d
    · exact .inl d
    · refine .inr ⟨d.1, ?_⟩
      have := d.2
      rw [toInt_small (by have := k.isLt; omega)] at this
      exact_mod_cast this

end Cert.Proof

end
-- ==== Proof.RefFirst.lean ====
/-
  The reference's samples over the extended reals: in each row the first column of the largest perturbed logit.
-/
module

public import proofs.«01_k».proof.Proof.RefRead
public import proofs.«01_k».proof.Proof.RowScore
public import proofs.«01_k».proof.Proof.Uniform
public import proofs.«01_k».proof.Proof.RowFirst
public import proofs.«01_k».proof.Proof.ArgMax

@[expose] public section

set_option maxRecDepth 16384

noncomputable section

namespace Cert.ReferenceIdeal.Value

open Idealize.ShloMosaic Cert.ReferenceIdeal Cert.ReferenceIdeal.Gen Cert.Proof

theorem positions_apply (i : S2x1024x100000.Idx) :
    positions i = BitVec.ofNat 64 (102400000 * (i 0).val + 100000 * (i 1).val + (i 2).val) := by
  have e : positions i = (102400000#64 * BitVec.ofNat 64 (i 0).val + 100000#64 * BitVec.ofNat 64 (i 1).val) + 1#64 * BitVec.ofNat 64 (i 2).val := rfl
  rw [e, BitVec.ofNat_add, BitVec.ofNat_add, BitVec.ofNat_mul, BitVec.ofNat_mul, BitVec.one_mul]

/-- A counter below 2^32 has a zero upper half and itself as its lower. -/
theorem upper_zero (n : ℕ) (hn : n < 4294967296) : (IntOp.shrui .host (BitVec.ofNat 64 n) 32#64).setWidth 32 = 0#32 := by
  have e : IntOp.shrui .host (BitVec.ofNat 64 n) 32#64 = BitVec.ofNat 64 n >>> (32#64) := if_pos (by decide)
  rw [e]
  apply BitVec.eq_of_toNat_eq
  simp only [BitVec.toNat_setWidth, BitVec.toNat_ushiftRight, BitVec.ushiftRight_eq', BitVec.toNat_ofNat, Nat.shiftRight_eq_div_pow]
  rw [Nat.mod_eq_of_lt (by omega : n < 2 ^ 64), show (32 % 2 ^ 64 : ℕ) = 32 from rfl, Nat.div_eq_of_lt (by omega : n < 2 ^ 32)]

theorem lower_self (n : ℕ) : (BitVec.ofNat 64 n).setWidth 32 = BitVec.ofNat 32 n := by
  apply BitVec.eq_of_toNat_eq
  simp only [BitVec.toNat_setWidth, BitVec.toNat_ofNat]
  omega

theorem sampleWords_apply (k : IVec T2 32) (i : S2x1024x100000.Idx) :
    xori (sampleWords k).1 (sampleWords k).2 i = word (keyWord0 k) (keyWord1 k) (third (keyWord0 k) (keyWord1 k))
      (IntOp.addi (BitVec.ofNat 32 (102400000 * (i 0).val + 100000 * (i 1).val + (i 2).val)) (keyWord1 k)) := by
  have h0 : (i 0).val < 2 := (i 0).isLt
  have h1 : (i 1).val < 1024 := (i 1).isLt
  have h2 : (i 2).val < 100000 := (i 2).isLt
  have hp := positions_apply i
  unfold sampleWords
  rw [wordsOf_apply]
  · congr 2
    show (positions i).setWidth 32 = _
    rw [hp, lower_self]
  · show (IntOp.shrui .host (positions i) 32#64).setWidth 32 = 0#32
    rw [hp]
    exact upper_zero _ (by omega)

theorem field_apply (k : IVec T2 32) (x : FVec Ideal S1024x100000 .f32) (t : FVec Ideal S_ .f32) (i : S2x1024x100000.Idx) :
    field k x t i = rowScore (keyWord0 k) (keyWord1 k) (scal t) (rowOf x (i 1).val) (i 0).val (i 1).val (i 2).val := by
  have e : field k x t i = -Ideal.log (-Ideal.log (max (Ideal.ofBits .f32 0x00800000#32)
      (max (Ideal.ofBits .f32 0x00000000#32) ((Ideal.ofBits .f32 (IntOp.ori (IntOp.shrui .host (xori (sampleWords k).1 (sampleWords k).2 i) 9#32) 1065353216#32) - Ideal.ofBits .f32 0x3F800000#32)
        * (Ideal.ofBits .f32 0x3F800000#32 - Ideal.ofBits .f32 0x00000000#32) + Ideal.ofBits .f32 0x00000000#32))))
      + broadcastInDim S2x1024x100000 ![0, 1, 2] bcast_S1x1024x100000_S2x1024x100000_0_1_2
      (broadcastInDim S1x1024x100000 ![1, 2] bcast_S1024x100000_S1x1024x100000_1_2
        (mulf x (broadcast S1024x100000 (scal t)))) i := rfl
  have e2 : broadcastInDim S2x1024x100000 ![0, 1, 2] bcast_S1x1024x100000_S2x1024x100000_0_1_2
      (broadcastInDim S1x1024x100000 ![1, 2] bcast_S1024x100000_S1x1024x100000_1_2
        (mulf x (broadcast S1024x100000 (scal t)))) i = rowOf x (i 1).val (i 2).val * scal t := by
    refine (broadcastInDim_apply _ _ _ i (show S1x1024x100000.Idx from fun a => match a with | ⟨0, _⟩ => ⟨0, Nat.one_pos⟩ | ⟨1, _⟩ => i 1 | ⟨2, _⟩ => i 2) ?_).trans ?_
    · intro a
      match a with
      | ⟨0, _⟩ => rfl
      | ⟨1, _⟩ => rfl
      | ⟨2, _⟩ => rfl
    refine (broadcastInDim_apply _ _ _ _ (show S1024x100000.Idx from fun a => match a with | ⟨0, _⟩ => i 1 | ⟨1, _⟩ => i 2) ?_).trans ?_
    · intro a
      match a with
      | ⟨0, _⟩ => rfl
      | ⟨1, _⟩ => rfl
    show x _ * scal t = _
    rw [rowOf_eq x _ (R := (i 1).val) (c := (i 2).val) rfl rfl]
  rw [e, e2, sampleWords_apply, unif_clamped, add_comm]
  rfl

theorem row_reduces : S2x1024x100000.Reduces [2] S2x1024 := by decide

/-- The samples. -/
theorem samples_first (k : IVec T2 32) (x : FVec Ideal S1024x100000 .f32) (t : FVec Ideal S_ .f32) (j : S1024x2.Idx) :
    ∃ n v, samples k x t j = BitVec.ofNat 32 n ∧
      Best (Span 0 100000) (rowScore (keyWord0 k) (keyWord1 k) (scal t) (rowOf x (j 0).val) (j 1).val (j 0).val) v n := by
  have e : samples k x t j = (Host.argReduce reducer_argmax_f32_i32 (field k x t) (iotaInDim S2x1024x100000 32 2)
      (constant S_ .f32 0xFF800000#32) (constantI S_ 32 0#32) reducesTo_S2x1024x100000_S2x1024_d2 h_S_
        (fun a => match a with | ⟨0, _⟩ => j 1 | ⟨1, _⟩ => j 0)).2 := by
    refine transpose_apply _ _ _ j _ ?_
    intro b
    match b with
    | ⟨0, _⟩ => rfl
    | ⟨1, _⟩ => rfl
  rw [e]
  refine argmax_first reducesTo_S2x1024x100000_S2x1024_d2 row_reduces h_S_ (field k x t) (iotaInDim S2x1024x100000 32 2) _ _ _
    (by decide) (by decide) (fun _ => ofBits_ninf) (fun _ => rfl) _ ?_ ?_
  · intro c
    rw [field_apply]
    rfl
  · intro c
    rfl

end Cert.ReferenceIdeal.Value

end
-- ==== Proof.Coin.lean ====
/-
  A Bernoulli draw over the extended reals: both sides compare the same uniform number with the same probability.
-/
module

public import proofs.«01_k».proof.Proof.RefFirst
public import proofs.«01_k».proof.Proof.Block

@[expose] public section

set_option maxRecDepth 16384

noncomputable section

namespace Cert.Proof

open Idealize.ShloMosaic

/-- A draw under a key: one where the uniform number of counter `n` is below the probability, else zero. -/
def coin (k0 k1 : BitVec 32) (t x : EReal) (n : ℕ) : EReal :=
  if unif (word k0 k1 (third k0 k1) (IntOp.addi (BitVec.ofNat 32 n) k1)) < Ideal.logistic (x * t) then 1 else 0

end Cert.Proof

namespace Cert.KernelIdeal.Value

open Cert.KernelIdeal.Gen Cert.Proof
open Idealize.ShloMosaic

/-- The kernel's draw. -/
theorem bernVal_apply (t : Ideal .f32) (k0 k1 : BitVec 32) (l : FVec Ideal S8x128 .f32) (q : S8x128.Idx) :
    bernVal t k0 k1 (key2 k0 k1) l q = coin k0 k1 t (l q) (128 * (q 0).val + (q 1).val) := by
  have hl : shapeCast S8x128 l shapeCasts_S8x128_S8x128 q = l q := shapeCast_apply l _ q q rfl
  have hw := bits_apply (s := S8x128) k0 k1 (key2 k0 k1) (addi (addi (muli (iota .tc S8x128 32 [0] iota_S8x128_d0_w32) (broadcast S8x128 128#32))
      (iota .tc S8x128 32 [1] iota_S8x128_d1_w32)) (broadcast S8x128 k1)) q
  have hc : (addi (addi (muli (iota .tc S8x128 32 [0] iota_S8x128_d0_w32) (broadcast S8x128 128#32))
      (iota .tc S8x128 32 [1] iota_S8x128_d1_w32)) (broadcast S8x128 k1)) q = IntOp.addi (BitVec.ofNat 32 (128 * (q 0).val + (q 1).val)) k1 := by
    show IntOp.addi (IntOp.addi (IntOp.muli (iota .tc S8x128 32 [0] iota_S8x128_d0_w32 q) 128#32) (iota .tc S8x128 32 [1] iota_S8x128_d1_w32 q)) k1 = _
    rw [iota_single_apply, iota_single_apply]
    congr 1
    rw [BitVec.ofNat_add, BitVec.ofNat_mul, BitVec.mul_comm]
    rfl
  have e : bernVal t k0 k1 (key2 k0 k1) l q = (((BitVec.setWidth 32 (BitVec.ofBool (decide (
      Ideal.ofBits .f32 (IntOp.ori (IntOp.shrui .vector (bits k0 k1 (key2 k0 k1) (addi (addi (muli (iota .tc S8x128 32 [0] iota_S8x128_d0_w32) (broadcast S8x128 128#32))
      (iota .tc S8x128 32 [1] iota_S8x128_d1_w32)) (broadcast S8x128 k1)) q) 9#32) 1065353216#32) - Ideal.ofBits .f32 0x3F800000#32
      < Ideal.logistic (shapeCast S8x128 l shapeCasts_S8x128_S8x128 q * t))))).toInt : ℝ) : EReal) := rfl
  rw [e, hw, hc, hl]
  show _ = if unif _ < _ then (1 : EReal) else 0
  by_cases h : unif (word k0 k1 (third k0 k1) (IntOp.addi (BitVec.ofNat 32 (128 * (q 0).val + (q 1).val)) k1)) < Ideal.logistic (l q * t)
  · rw [if_pos h]
    refine (congrArg (fun b : Bool => (((BitVec.setWidth 32 (BitVec.ofBool b)).toInt : ℝ) : EReal)) (decide_eq_true h)).trans ?_
    simp
  · rw [if_neg h]
    refine (congrArg (fun b : Bool => (((BitVec.setWidth 32 (BitVec.ofBool b)).toInt : ℝ) : EReal)) (decide_eq_false h)).trans ?_
    simp

end Cert.KernelIdeal.Value

namespace Cert.ReferenceIdeal.Value

open Cert.ReferenceIdeal.Gen Cert.Proof
open Idealize.ShloMosaic Cert.ReferenceIdeal

theorem drawWords_apply (k : IVec T2 32) (i : S1024.Idx) :
    xori (drawWords k).1 (drawWords k).2 i = word (keyWord0 k) (keyWord1 k) (third (keyWord0 k) (keyWord1 k))
      (IntOp.addi (BitVec.ofNat 32 (i 0).val) (keyWord1 k)) := by
  have h0 : (i 0).val < 1024 := (i 0).isLt
  have hp : drawPositions i = BitVec.ofNat 64 (i 0).val := by
    have e : drawPositions i = 1#64 * BitVec.ofNat 64 (i 0).val := rfl
    rw [e, BitVec.one_mul]
  unfold drawWords
  refine (wordsOf_apply _ _ _ _ i ?_).trans ?_
  · show (IntOp.shrui .host (drawPositions i) 32#64).setWidth 32 = 0#32
    rw [hp]
    exact upper_zero _ (by omega)
  · show word _ _ _ (IntOp.addi ((drawPositions i).setWidth 32) _) = _
    rw [hp, lower_self]

/-- The reference's draw. -/
theorem draws_apply (k : IVec T2 32) (x : FVec Ideal S1024 .f32) (t : FVec Ideal S_ .f32) (j : S1024.Idx) :
    draws k x t j = coin (keyWord0 k) (keyWord1 k) (scal t) (x j) (j 0).val := by
  have e : draws k x t j = (((BitVec.ofBool (decide (
      max (Ideal.ofBits .f32 0x00000000#32) ((Ideal.ofBits .f32 (IntOp.ori (IntOp.shrui .host (xori (drawWords k).1 (drawWords k).2 j) 9#32) 1065353216#32) - Ideal.ofBits .f32 0x3F800000#32)
        * (Ideal.ofBits .f32 0x3F800000#32 - Ideal.ofBits .f32 0x00000000#32) + Ideal.ofBits .f32 0x00000000#32)
      < Ideal.div (Ideal.ofBits .f32 0x3F800000#32) (Ideal.ofBits .f32 0x3F800000#32 + Ideal.exp (-(x j * scal t)))))).toNat : ℝ) : EReal) := rfl
  rw [e, drawWords_apply, unif_clamped, Ideal.ofBits_one_f32]
  show _ = if unif _ < _ then (1 : EReal) else 0
  by_cases h : unif (word (keyWord0 k) (keyWord1 k) (third (keyWord0 k) (keyWord1 k)) (IntOp.addi (BitVec.ofNat 32 (j 0).val) (keyWord1 k))) < Ideal.logistic (x j * scal t)
  · rw [if_pos h]
    refine (congrArg (fun b : Bool => (((BitVec.ofBool b).toNat : ℝ) : EReal)) (decide_eq_true h)).trans ?_
    simp
  · rw [if_neg h]
    refine (congrArg (fun b : Bool => (((BitVec.ofBool b).toNat : ℝ) : EReal)) (decide_eq_false h)).trans ?_
    simp

end Cert.ReferenceIdeal.Value

end
-- ==== Proof.Arrays.lean ====
/-
  The kernel's two result arrays over the extended reals are the reference's.
-/
module

public import proofs.«01_k».proof.Proof.Samples
public import proofs.«01_k».proof.Proof.Coin
public import Idealize.ShloMosaic.Lib.Pipeline.ValueKit.Geometry

@[expose] public section

set_option maxRecDepth 16384

noncomputable section

namespace Cert.KernelIdeal.Value

open Cert.KernelIdeal.Gen Cert.Proof
open Idealize.ShloMosaic Idealize.ShloMosaic.TcCoe
open Idealize.ShloMosaic.Pipeline (Dat Cfg Window)
open Idealize.SL.Sem

variable (m : (ℓ : Loc nD τ sig) → Buf (Elt Ideal) ℓ) (c : Dev nD)

/-- The reference's results on the kernel's arguments. -/
abbrev samplesRef : IVec S1024x2 32 :=
  Cert.ReferenceIdeal.Value.samples (F := Ideal) keyA (logits m c) (m ((c.tc : Thread nD τ).loc main_arg1))
abbrev drawsRef : FVec Ideal S1024 .f32 :=
  Cert.ReferenceIdeal.Value.draws (F := Ideal) keyB (m ((c.tc : Thread nD τ).loc main_arg2)) (m ((c.tc : Thread nD τ).loc main_arg3))

/-- A point's block of samples, inside the reference's array. -/
theorem samp_ref (t : Fin cfg0.N) (q : S8x2.Idx) (i : S1024x2.Idx) (h0 : (i 0).val = 8 * t.val + (q 0).val) (h1 : (i 1).val = (q 1).val) :
    (samp m c t : IVec S8x2 32) q = samplesRef m c i := by
  obtain ⟨n, v, e, hb⟩ := samp_first m c t q
  obtain ⟨n', v', e', hb'⟩ := Cert.ReferenceIdeal.Value.samples_first keyA (logits m c) (m ((c.tc : Thread nD τ).loc main_arg1)) i
  rw [h0, h1] at hb'
  rw [e]
  refine Eq.trans ?_ e'.symm
  rw [Best.unique hb hb']

theorem final_samples : (dats m 0 c).arrAt 4 cfg0.N = samplesRef m c := by
  refine (dats m 0 c).arrAt_eq_of_covers 4 _ (by decide +kernel) fun t hf y => ?_
  rw [after0_4]
  refine samp_ref m c t y _ ?_ ?_
  · show (BitVec.ofNat 32 (grid0.coords t 0).val).toNat * 8 + 1 * (y 0).val = _
    rw [point_word]; omega
  · show 0 * 2 + 1 * (y 1).val = _
    omega

/-- The load of the logits of the Bernoulli draws. -/
theorem read_bern : View.readAt (Elt Ideal) (ms0_3 t0).view (Rect.unit (s := S8x128) ![0, 0] S8x128.size inb_S8x128_S8x128_0_0).toLoadRect ((hs0_3 t0).unread (iblk m c 3 t0))
    = shapeCast S8x128 (m ((c.tc : Thread nD τ).loc main_arg2) : FVec Ideal S1024 .f32) shapeCasts_S1024_S8x128 := by
  funext q
  refine (read_unit (ms0_3 t0) (hs0_3 t0) _ _ _ _ _ q ?_).trans ?_
  · intro b
    match b with
    | ⟨0, _⟩ => exact (Nat.zero_add _).symm
    | ⟨1, _⟩ => exact (Nat.zero_add _).symm
  · refine (iblk_bern m c t0 q).trans ?_
    rw [(V_operands m c).2.2]

theorem drawn_eq : drawn m c = bernVal (F := Ideal) (scal (m ((c.tc : Thread nD τ).loc main_arg3))) (keyWord0 keyB) (keyWord1 keyB)
    (key2 (keyWord0 keyB) (keyWord1 keyB)) (shapeCast S8x128 (m ((c.tc : Thread nD τ).loc main_arg2) : FVec Ideal S1024 .f32) shapeCasts_S1024_S8x128) := by
  unfold drawn
  exact runFirst_bern c (grid0.coords t0) _ _ _ _ _ _ _ _ _ _ _ _ _ _ _ _ _ _ _ _ _ (read_key2 m c t0) (read_key3 m c t0) (read_temp1 m c t0) (read_bern m c)

/-- A vector read as rows of 128. -/
theorem cast_block (x : FVec Ideal S1024 .f32) (q : S8x128.Idx) (j : S1024.Idx) (h : (j 0).val = (q 0).val * 128 + (q 1).val) :
    shapeCast S8x128 x shapeCasts_S1024_S8x128 q = x j := by
  refine shapeCast_apply x _ q j ?_
  rw [Shape.rowMajor_val_one, Shape.rowMajor_val_two]
  exact h

/-- The block of draws, row by row, is the reference's vector. -/
theorem drawn_ref : shapeCast S1024 (drawn m c : FVec Ideal S8x128 .f32) shapeCasts_S8x128_S1024 = drawsRef m c := by
  funext j
  have hj : (j 0).val < 1024 := (j 0).isLt
  refine (shapeCast_apply (drawn m c : FVec Ideal S8x128 .f32) _ j (show S8x128.Idx from fun a => match a with
    | ⟨0, _⟩ => ⟨(j 0).val / 128, by show _ < 8; omega⟩ | ⟨1, _⟩ => ⟨(j 0).val % 128, by show _ < 128; omega⟩) ?_).trans ?_
  · rw [Shape.rowMajor_val_one, Shape.rowMajor_val_two]
    show (j 0).val / 128 * 128 + (j 0).val % 128 = (j 0).val
    omega
  · rw [drawn_eq]
    refine (bernVal_apply _ _ _ _ _).trans ?_
    refine Eq.trans ?_ (Cert.ReferenceIdeal.Value.draws_apply keyB _ _ j).symm
    rw [cast_block (m ((c.tc : Thread nD τ).loc main_arg2) : FVec Ideal S1024 .f32) _ j (by
      show (j 0).val = (j 0).val / 128 * 128 + (j 0).val % 128
      omega)]
    show coin _ _ _ _ (128 * ((j 0).val / 128) + (j 0).val % 128) = _
    rw [show 128 * ((j 0).val / 128) + (j 0).val % 128 = (j 0).val by omega]

theorem final_drawn : (dats m 0 c).arrAt 5 cfg0.N = drawn m c := by
  refine (dats m 0 c).arrAt_eq_of_after_last 5 (⟨127, by decide +kernel⟩ : Fin grid0.N) (by decide +kernel) _ fun j => ?_
  rw [after0_5]
  rfl

/-- The line after the region writes the draws as a vector. -/
theorem W_main_v18 : Pipeline.afterTail₀ cfgs (dats m) 0 (V0 m) [hostOps1] c main_v18 = drawsRef m c := by
  unfold Pipeline.afterTail₀
  simp only [hostOps1, List.flatten_cons, List.flatten_nil, List.append_nil, StableHlo.after_cons, StableHlo.after_nil]
  refine Eq.trans ?_ (drawn_ref m c)
  refine (StableHlo.reshape_result _ _ _ _ _ _ _).trans ?_
  funext j
  exact congrFun (congrArg (fun x : FVec Ideal S8x128 .f32 => shapeCast S1024 x shapeCasts_S8x128_S1024)
    ((Pipeline.withArrays_arr spec0 (by decide) c (V0 m c) (fun w => (dats m 0 c).arrAt w cfg0.N) 5).trans (final_drawn m c))) j

theorem run_value (g : Dev nD → PrngReg) : θ_run defs (onTc (τ := τ) (main (F := Ideal))) ⟨m, fun _ => 0, g⟩ (fun r => ∀ c : Dev nD,
      r.2.mem ((c.tc : Thread nD τ).loc main_v17_0) = samplesRef m c
      ∧ r.2.mem ((c.tc : Thread nD τ).loc main_v18) = drawsRef m c) :=
  (θ_run defs _ _).mono (fun _ h c =>
    ⟨(h.1.out_eq c 4).trans (final_samples m c), (h.1.rest_eq c main_v18 (by decide)).trans (W_main_v18 m c)⟩) (run_main m g)

end Cert.KernelIdeal.Value

end
-- ==== Proof.lean ====
/-
  The certificate: the three frames, that the idealization preserves the kernel, and that its results are the reference's.
-/
module

public import proofs.«01_k».proof.Defs
public import proofs.«01_k».proof.Proof.KernelFrame
public import proofs.«01_k».proof.Proof.KRun
public import proofs.«01_k».proof.Proof.Trip
public import proofs.«01_k».proof.Proof.Block
public import proofs.«01_k».proof.Proof.RefFrame
public import proofs.«01_k».proof.Proof.RefRun
public import proofs.«01_k».proof.Proof.Arrays
public import Idealize.ShloMosaic.Adequacy
public import Idealize.ShloMosaic.Init

@[expose] public section

noncomputable section

namespace Cert.Proof

open Idealize.ShloMosaic Idealize.SL.Sem

/-- The frame of the idealized kernel, from its launch at its values. -/
theorem frame_ideal : Cert.quiescent_KernelIdeal (hKernelIdeal := Cert.KernelIdeal.Gen.facts) := fun m ρ _ =>
  θ_run_and (Cert.KernelIdeal.Value.unchanged m ρ)
    ((θ_run _ _ _).mono (fun _ h => h.2) (Cert.KernelIdeal.Value.run_main m ρ))

/-- The kernel's results over the extended reals are the reference's. -/
theorem equal_results : Cert.algebraic_KernelIdeal_ReferenceIdeal (hKernelIdeal := Cert.KernelIdeal.Gen.facts)
    (hReferenceIdeal := Cert.ReferenceIdeal.Gen.facts) := fun m g m' g' _ heq =>
  ⟨Cert.KernelIdeal.Value.samplesRef m, Cert.KernelIdeal.Value.drawsRef m,
    (θ_run _ _ _).mono (fun _ h c => ⟨(h.1 c).1, (h.1 c).2, h.2 c⟩)
      (θ_run_and (Cert.KernelIdeal.Value.run_value m g) (Cert.KernelIdeal.Value.unchanged m g)),
    (θ_run _ _ _).mono (fun _ h c => by
      obtain ⟨h0, h1, hargs⟩ := h c
      obtain ⟨e0, e1, e2, e3⟩ := heq c
      rw [e0, e1] at h0
      rw [e2, e3] at h1
      exact ⟨h0, h1, hargs⟩) (Cert.ReferenceIdeal.Value.run_main m' g')⟩

theorem claim : Cert.Claim :=
  ⟨Cert.Kernel.Gen.facts, Cert.KernelIdeal.Gen.facts, Cert.ReferenceIdeal.Gen.facts,
    Cert.Kernel.Run.frame, frame_ideal, Cert.ReferenceIdeal.Value.frame, trivial, equal_results⟩

end Cert.Proof

end
